-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_multi_hot_and_in_range [hPre_multi_hot_and_in_range : Cert.Pre_multi_hot_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_multi_hot_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_multi_hot_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_multi_hot_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_multi_hot_and_in_range [hPre_multi_hot_and_in_range : Cert.Pre_multi_hot_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_multi_hot_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_multi_hot_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_multi_hot_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_multi_hot_and_in_range [hKernelIdeal : Cert.KernelIdeal.Facts] [hPre_multi_hot_and_in_range : Cert.Pre_multi_hot_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_multi_hot_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_multi_hot_and_in_range [hReferenceIdeal : Cert.ReferenceIdeal.Facts] [hPre_multi_hot_and_in_range : Cert.Pre_multi_hot_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_multi_hot_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_multi_hot_and_in_range [hKernelIdeal : Cert.KernelIdeal.Facts] [hReferenceIdeal : Cert.ReferenceIdeal.Facts] [hPre_multi_hot_and_in_range : Cert.Pre_multi_hot_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_multi_hot_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_multi_hot_and_in_range : Cert.Pre_multi_hot_and_in_range.Facts),
    quiescent_Kernel (hKernel := hKernel)
    ∧ quiescent_KernelIdeal (hKernelIdeal := hKernelIdeal)
    ∧ quiescent_KernelIdeal_pre_multi_hot_and_in_range (hKernelIdeal := hKernelIdeal) (hPre_multi_hot_and_in_range := hPre_multi_hot_and_in_range)
    ∧ quiescent_ReferenceIdeal (hReferenceIdeal := hReferenceIdeal)
    ∧ quiescent_ReferenceIdeal_pre_multi_hot_and_in_range (hReferenceIdeal := hReferenceIdeal) (hPre_multi_hot_and_in_range := hPre_multi_hot_and_in_range)
    ∧ preserves_Kernel_KernelIdeal
    ∧ algebraic_KernelIdeal_ReferenceIdeal_pre_multi_hot_and_in_range (hKernelIdeal := hKernelIdeal) (hReferenceIdeal := hReferenceIdeal) (hPre_multi_hot_and_in_range := hPre_multi_hot_and_in_range)
-- ==== Pre_multi_hot_and_in_range.lean ====
abbrev S1024x20x1000 : Shape := ⟨3, ![1024, 20, 1000]⟩
abbrev S1024 : Shape := ⟨1, ![1024]⟩
abbrev S1000x1000 : Shape := ⟨2, ![1000, 1000]⟩
abbrev S1000 : Shape := ⟨1, ![1000]⟩
abbrev S_ : Shape := ⟨0, ![]⟩
abbrev S1000x64 : Shape := ⟨2, ![1000, 64]⟩
abbrev S64 : Shape := ⟨1, ![64]⟩
abbrev S64x512 : Shape := ⟨2, ![64, 512]⟩
abbrev S128x512 : Shape := ⟨2, ![128, 512]⟩
abbrev S512 : Shape := ⟨1, ![512]⟩
abbrev S128x1000 : Shape := ⟨2, ![128, 1000]⟩

class Facts : Prop where
  bcast_S_S1024x20x1000 : S_.BroadcastsInDim S1024x20x1000 (![] : Fin 0 → Fin S1024x20x1000.rank)
  bcast_S_S1024 : S_.BroadcastsInDim S1024 (![] : Fin 0 → Fin S1024.rank)

variable [Facts]

def fn {F : FTy → Type} [FloatOps F] (main_arg0 : FVec F S1024x20x1000 .f32) (main_arg1 : IVec S1024 32) (main_arg2 : FVec F S1000x1000 .f32) (main_arg3 : FVec F S1000 .f32) (main_arg4 : FVec F S_ .f32) (main_arg5 : FVec F S1000x64 .f32) (main_arg6 : FVec F S64 .f32) (main_arg7 : FVec F S64x512 .f32) (main_arg8 : FVec F S128x512 .f32) (main_arg9 : FVec F S512 .f32) (main_arg10 : FVec F S128x1000 .f32) : IVec S1024x20x1000 1 × IVec S1024 1 × IVec S1024 1 :=
  let main_cst : FVec F S_ .f32 := constant S_ .f32 0x00000000#32
  let main_v0 : FVec F S1024x20x1000 .f32 := broadcastInDim S1024x20x1000 ![] bcast_S_S1024x20x1000 main_cst
  let main_v1 : IVec S1024x20x1000 1 := cmpf .oge main_arg0 main_v0
  let main_c : IVec S_ 32 := constantI S_ 32 1#32
  let main_v2 : IVec S1024 32 := broadcastInDim S1024 ![] bcast_S_S1024 main_c
  let main_v3 : IVec S1024 1 := cmpi .sge main_arg1 main_v2
  let main_c_0 : IVec S_ 32 := constantI S_ 32 20#32
  let main_v4 : IVec S1024 32 := broadcastInDim S1024 ![] bcast_S_S1024 main_c_0
  let main_v5 : IVec S1024 1 := cmpi .sle main_arg1 main_v4
  (main_v1, main_v3, main_v5)
-- ==== Kernel.lean ====
abbrev S1024x20x1000 : Shape := ⟨3, ![1024, 20, 1000]⟩
abbrev S1024 : Shape := ⟨1, ![1024]⟩
abbrev S1000x1000 : Shape := ⟨2, ![1000, 1000]⟩
abbrev S1000 : Shape := ⟨1, ![1000]⟩
abbrev S_ : Shape := ⟨0, ![]⟩
abbrev S1000x64 : Shape := ⟨2, ![1000, 64]⟩
abbrev S64 : Shape := ⟨1, ![64]⟩
abbrev S64x512 : Shape := ⟨2, ![64, 512]⟩
abbrev S128x512 : Shape := ⟨2, ![128, 512]⟩
abbrev S512 : Shape := ⟨1, ![512]⟩
abbrev S128x1000 : Shape := ⟨2, ![128, 1000]⟩
abbrev S1024x1024 : Shape := ⟨2, ![1024, 1024]⟩
abbrev S1x1024 : Shape := ⟨2, ![1, 1024]⟩
abbrev S1000x1 : Shape := ⟨2, ![1000, 1]⟩
abbrev S1000x128 : Shape := ⟨2, ![1000, 128]⟩
abbrev S1024x128 : Shape := ⟨2, ![1024, 128]⟩
abbrev S128 : Shape := ⟨1, ![128]⟩
abbrev S1x128 : Shape := ⟨2, ![1, 128]⟩
abbrev S256x512 : Shape := ⟨2, ![256, 512]⟩
abbrev S1024x1 : Shape := ⟨2, ![1024, 1]⟩
abbrev S1x1 : Shape := ⟨2, ![1, 1]⟩
abbrev S1x512 : Shape := ⟨2, ![1, 512]⟩
abbrev S128x1024 : Shape := ⟨2, ![128, 1024]⟩
abbrev S1024x1000 : Shape := ⟨2, ![1024, 1000]⟩
abbrev S128x20x1000 : Shape := ⟨3, ![128, 20, 1000]⟩
abbrev S128x1 : Shape := ⟨2, ![128, 1]⟩
abbrev S128x128 : Shape := ⟨2, ![128, 128]⟩
abbrev S128x1x1000 : Shape := ⟨3, ![128, 1, 1000]⟩
abbrev S512x1000 : Shape := ⟨2, ![512, 1000]⟩
abbrev S1000x1024 : Shape := ⟨2, ![1000, 1024]⟩
abbrev S512x1024 : Shape := ⟨2, ![512, 1024]⟩
abbrev S512x128 : Shape := ⟨2, ![512, 128]⟩
abbrev S128x256 : Shape := ⟨2, ![128, 256]⟩

abbrev nBuf : Space → Nat
  | .hbm => 49
  | .vmem => 15
  | .smem => 0
  | _ => 0

abbrev bufTy : (tb : Table) → Fin (tcTables nBuf tb) → BufTy
  | .hbm, ⟨0, _⟩ => ⟨S1024x20x1000, .f32⟩
  | .hbm, ⟨1, _⟩ => ⟨S1024, .i32⟩
  | .hbm, ⟨2, _⟩ => ⟨S1000x1000, .f32⟩
  | .hbm, ⟨3, _⟩ => ⟨S1000, .f32⟩
  | .hbm, ⟨4, _⟩ => ⟨S_, .f32⟩
  | .hbm, ⟨5, _⟩ => ⟨S1000x64, .f32⟩
  | .hbm, ⟨6, _⟩ => ⟨S64, .f32⟩
  | .hbm, ⟨7, _⟩ => ⟨S64x512, .f32⟩
  | .hbm, ⟨8, _⟩ => ⟨S128x512, .f32⟩
  | .hbm, ⟨9, _⟩ => ⟨S512, .f32⟩
  | .hbm, ⟨10, _⟩ => ⟨S128x1000, .f32⟩
  | .hbm, ⟨11, _⟩ => ⟨S_, .i32⟩
  | .hbm, ⟨12, _⟩ => ⟨S_, .f32⟩
  | .hbm, ⟨13, _⟩ => ⟨S1024x1024, .f32⟩
  | .hbm, ⟨14, _⟩ => ⟨S_, .i32⟩
  | .hbm, ⟨15, _⟩ => ⟨S_, .f32⟩
  | .hbm, ⟨16, _⟩ => ⟨S1024, .f32⟩
  | .hbm, ⟨17, _⟩ => ⟨S1x1024, .f32⟩
  | .hbm, ⟨18, _⟩ => ⟨S_, .f32⟩
  | .hbm, ⟨19, _⟩ => ⟨S1000, .f32⟩
  | .hbm, ⟨20, _⟩ => ⟨S1000, .f32⟩
  | .hbm, ⟨21, _⟩ => ⟨S1000x1, .f32⟩
  | .hbm, ⟨22, _⟩ => ⟨S1000x64, .f32⟩
  | .hbm, ⟨23, _⟩ => ⟨S1000x64, .f32⟩
  | .hbm, ⟨24, _⟩ => ⟨S_, .i32⟩
  | .hbm, ⟨25, _⟩ => ⟨S_, .f32⟩
  | .hbm, ⟨26, _⟩ => ⟨S1000x128, .f32⟩
  | .hbm, ⟨27, _⟩ => ⟨S_, .i32⟩
  | .hbm, ⟨28, _⟩ => ⟨S_, .f32⟩
  | .hbm, ⟨29, _⟩ => ⟨S1024x128, .f32⟩
  | .hbm, ⟨30, _⟩ => ⟨S_, .i32⟩
  | .hbm, ⟨31, _⟩ => ⟨S_, .f32⟩
  | .hbm, ⟨32, _⟩ => ⟨S128, .f32⟩
  | .hbm, ⟨33, _⟩ => ⟨S1x128, .f32⟩
  | .hbm, ⟨34, _⟩ => ⟨S_, .i32⟩
  | .hbm, ⟨35, _⟩ => ⟨S_, .f32⟩
  | .hbm, ⟨36, _⟩ => ⟨S128x512, .f32⟩
  | .hbm, ⟨37, _⟩ => ⟨S256x512, .f32⟩
  | .hbm, ⟨38, _⟩ => ⟨S1024, .f32⟩
  | .hbm, ⟨39, _⟩ => ⟨S_, .f32⟩
  | .hbm, ⟨40, _⟩ => ⟨S1024, .f32⟩
  | .hbm, ⟨41, _⟩ => ⟨S1024, .f32⟩
  | .hbm, ⟨42, _⟩ => ⟨S1024x1, .f32⟩
  | .hbm, ⟨43, _⟩ => ⟨S1x1, .f32⟩
  | .hbm, ⟨44, _⟩ => ⟨S1x512, .f32⟩
  | .hbm, ⟨45, _⟩ => ⟨S_, .i32⟩
  | .hbm, ⟨46, _⟩ => ⟨S_, .f32⟩
  | .hbm, ⟨47, _⟩ => ⟨S128x1024, .f32⟩
  | .hbm, ⟨48, _⟩ => ⟨S1024x1000, .f32⟩
  | .local _ .vmem, ⟨0, _⟩ => ⟨S128x20x1000, .f32⟩
  | .local _ .vmem, ⟨1, _⟩ => ⟨S128x20x1000, .f32⟩
  | .local _ .vmem, ⟨2, _⟩ => ⟨S128x1, .f32⟩
  | .local _ .vmem, ⟨3, _⟩ => ⟨S128x1, .f32⟩
  | .local _ .vmem, ⟨4, _⟩ => ⟨S1024x1024, .f32⟩
  | .local _ .vmem, ⟨5, _⟩ => ⟨S1x1024, .f32⟩
  | .local _ .vmem, ⟨6, _⟩ => ⟨S1x1, .f32⟩
  | .local _ .vmem, ⟨7, _⟩ => ⟨S1000x128, .f32⟩
  | .local _ .vmem, ⟨8, _⟩ => ⟨S1024x128, .f32⟩
  | .local _ .vmem, ⟨9, _⟩ => ⟨S1x128, .f32⟩
  | .local _ .vmem, ⟨10, _⟩ => ⟨S256x512, .f32⟩
  | .local _ .vmem, ⟨11, _⟩ => ⟨S1x512, .f32⟩
  | .local _ .vmem, ⟨12, _⟩ => ⟨S128x1024, .f32⟩
  | .local _ .vmem, ⟨13, _⟩ => ⟨S128x1000, .f32⟩
  | .local _ .vmem, ⟨14, _⟩ => ⟨S128x1000, .f32⟩
  | _, _ => ⟨S1024x20x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_c_0 : Ref sig .tc := ⟨.hbm, 14, rfl⟩
abbrev main_call1_v0 : Ref sig .tc := ⟨.hbm, 15, rfl⟩
abbrev main_v1 : Ref sig .tc := ⟨.hbm, 16, rfl⟩
abbrev main_v2 : Ref sig .tc := ⟨.hbm, 17, rfl⟩
abbrev main_call2_cst : Ref sig .tc := ⟨.hbm, 18, rfl⟩
abbrev main_call2_v0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_call3_v0 : Ref sig .tc := ⟨.hbm, 25, rfl⟩
abbrev main_v7 : Ref sig .tc := ⟨.hbm, 26, rfl⟩
abbrev main_c_2 : Ref sig .tc := ⟨.hbm, 27, rfl⟩
abbrev main_call4_v0 : Ref sig .tc := ⟨.hbm, 28, rfl⟩
abbrev main_v8 : Ref sig .tc := ⟨.hbm, 29, rfl⟩
abbrev main_c_3 : Ref sig .tc := ⟨.hbm, 30, rfl⟩
abbrev main_call5_v0 : Ref sig .tc := ⟨.hbm, 31, rfl⟩
abbrev main_v9 : Ref sig .tc := ⟨.hbm, 32, rfl⟩
abbrev main_v10 : Ref sig .tc := ⟨.hbm, 33, rfl⟩
abbrev main_c_4 : Ref sig .tc := ⟨.hbm, 34, rfl⟩
abbrev main_call6_v0 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c_5 : Ref sig .tc := ⟨.hbm, 45, rfl⟩
abbrev main_call7_v0 : Ref sig .tc := ⟨.hbm, 46, rfl⟩
abbrev main_v19 : Ref sig .tc := ⟨.hbm, 47, rfl⟩
abbrev main_v20 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x20x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1000x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x1000 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S1024x20x1000 : Shape := ⟨3, ![1024, 20, 1000]⟩
abbrev S1024 : Shape := ⟨1, ![1024]⟩
abbrev S1000x1000 : Shape := ⟨2, ![1000, 1000]⟩
abbrev S1000 : Shape := ⟨1, ![1000]⟩
abbrev S_ : Shape := ⟨0, ![]⟩
abbrev S1000x64 : Shape := ⟨2, ![1000, 64]⟩
abbrev S64 : Shape := ⟨1, ![64]⟩
abbrev S64x512 : Shape := ⟨2, ![64, 512]⟩
abbrev S128x512 : Shape := ⟨2, ![128, 512]⟩
abbrev S512 : Shape := ⟨1, ![512]⟩
abbrev S128x1000 : Shape := ⟨2, ![128, 1000]⟩
abbrev S20480x1000 : Shape := ⟨2, ![20480, 1000]⟩
abbrev S1x1000 : Shape := ⟨2, ![1, 1000]⟩
abbrev S1024x20x64 : Shape := ⟨3, ![1024, 20, 64]⟩
abbrev S1x1x64 : Shape := ⟨3, ![1, 1, 64]⟩
abbrev S1024x128 : Shape := ⟨2, ![1024, 128]⟩
abbrev S20x1024x64 : Shape := ⟨3, ![20, 1024, 64]⟩
abbrev S20x1024x128 : Shape := ⟨3, ![20, 1024, 128]⟩
abbrev S1x1024x64 : Shape := ⟨3, ![1, 1024, 64]⟩
abbrev S1024x64 : Shape := ⟨2, ![1024, 64]⟩
abbrev S1024x512 : Shape := ⟨2, ![1024, 512]⟩
abbrev S1x512 : Shape := ⟨2, ![1, 512]⟩
abbrev S1x1024x128 : Shape := ⟨3, ![1, 1024, 128]⟩
abbrev S1024x20x128 : Shape := ⟨3, ![1024, 20, 128]⟩
abbrev S1024x1 : Shape := ⟨2, ![1024, 1]⟩
abbrev S1024x2 : Shape := ⟨2, ![1024, 2]⟩
abbrev S1024x1000 : Shape := ⟨2, ![1024, 1000]⟩

abbrev nBuf : Space → Nat
  | .hbm => 164
  | .vmem => 0
  | .smem => 0
  | _ => 0

abbrev hbmTy0_0 (i : Nat) : BufTy := match i % 128 with
  | 0 => ⟨S1024x20x1000, .f32⟩
  | 1 => ⟨S1024, .i32⟩
  | 2 => ⟨S1000x1000, .f32⟩
  | 3 => ⟨S1000, .f32⟩
  | 4 => ⟨S_, .f32⟩
  | 5 => ⟨S1000x64, .f32⟩
  | 6 => ⟨S64, .f32⟩
  | 7 => ⟨S64x512, .f32⟩
  | 8 => ⟨S128x512, .f32⟩
  | 9 => ⟨S512, .f32⟩
  | 10 => ⟨S128x1000, .f32⟩
  | 11 => ⟨S20480x1000, .f32⟩
  | 12 => ⟨S_, .f32⟩
  | 13 => ⟨S1000, .f32⟩
  | 14 => ⟨S1000, .f32⟩
  | 15 => ⟨S1x1000, .f32⟩
  | 16 => ⟨S20480x1000, .f32⟩
  | 17 => ⟨S20480x1000, .f32⟩
  | 18 => ⟨S20480x1000, .f32⟩
  | 19 => ⟨S_, .f32⟩
  | 20 => ⟨S20480x1000, .f32⟩
  | 21 => ⟨S20480x1000, .f32⟩
  | 22 => ⟨S_, .f32⟩
  | 23 => ⟨S20480x1000, .f32⟩
  | 24 => ⟨S20480x1000, .f32⟩
  | 25 => ⟨S20480x1000, .f32⟩
  | 26 => ⟨S1024x20x1000, .f32⟩
  | 27 => ⟨S1024x20x64, .f32⟩
  | 28 => ⟨S1x1x64, .f32⟩
  | 29 => ⟨S1024x20x64, .f32⟩
  | 30 => ⟨S1024x20x64, .f32⟩
  | 31 => ⟨S_, .f32⟩
  | 32 => ⟨S1024x20x64, .f32⟩
  | 33 => ⟨S1024x20x64, .f32⟩
  | 34 => ⟨S_, .f32⟩
  | 35 => ⟨S1024x128, .f32⟩
  | 36 => ⟨S_, .f32⟩
  | 37 => ⟨S1024x128, .f32⟩
  | 38 => ⟨S20x1024x64, .f32⟩
  | 39 => ⟨S_, .f32⟩
  | 40 => ⟨S20x1024x128, .f32⟩
  | 41 => ⟨S_, .i32⟩
  | 42 => ⟨S20x1024x64, .f32⟩
  | 43 => ⟨S64x512, .f32⟩
  | 44 => ⟨S128x512, .f32⟩
  | 45 => ⟨S512, .f32⟩
  | 46 => ⟨S_, .i32⟩
  | 47 => ⟨S1024x128, .f32⟩
  | 48 => ⟨S1024x128, .f32⟩
  | 49 => ⟨S20x1024x128, .f32⟩
  | 50 => ⟨S_, .i32⟩
  | 51 => ⟨S_, .i1⟩
  | 52 => ⟨S_, .i32⟩
  | 53 => ⟨S_, .i32⟩
  | 54 => ⟨S1x1024x64, .f32⟩
  | 55 => ⟨S1024x64, .f32⟩
  | 56 => ⟨S1024x512, .f32⟩
  | 57 => ⟨S1024x512, .f32⟩
  | 58 => ⟨S1024x512, .f32⟩
  | 59 => ⟨S1x512, .f32⟩
  | 60 => ⟨S1024x512, .f32⟩
  | 61 => ⟨S1024x512, .f32⟩
  | 62 => ⟨S1024x128, .f32⟩
  | 63 => ⟨S1024x128, .f32⟩
  | 64 => ⟨S1024x128, .f32⟩
  | 65 => ⟨S1024x128, .f32⟩
  | 66 => ⟨S1024x128, .f32⟩
  | 67 => ⟨S1024x128, .f32⟩
  | 68 => ⟨S_, .f32⟩
  | 69 => ⟨S1024x128, .f32⟩
  | 70 => ⟨S1024x128, .f32⟩
  | 71 => ⟨S_, .f32⟩
  | 72 => ⟨S1024x128, .f32⟩
  | 73 => ⟨S1024x128, .f32⟩
  | 74 => ⟨S1024x128, .f32⟩
  | 75 => ⟨S1024x128, .f32⟩
  | 76 => ⟨S_, .f32⟩
  | 77 => ⟨S1024x128, .f32⟩
  | 78 => ⟨S1024x128, .f32⟩
  | 79 => ⟨S_, .f32⟩
  | 80 => ⟨S1024x128, .f32⟩
  | 81 => ⟨S1024x128, .f32⟩
  | 82 => ⟨S1024x128, .f32⟩
  | 83 => ⟨S1024x128, .f32⟩
  | 84 => ⟨S1024x128, .f32⟩
  | 85 => ⟨S_, .f32⟩
  | 86 => ⟨S1024x128, .f32⟩
  | 87 => ⟨S1024x128, .f32⟩
  | 88 => ⟨S_, .f32⟩
  | 89 => ⟨S1024x128, .f32⟩
  | 90 => ⟨S1024x128, .f32⟩
  | 91 => ⟨S1024x128, .f32⟩
  | 92 => ⟨S1024x128, .f32⟩
  | 93 => ⟨S1024x128, .f32⟩
  | 94 => ⟨S1024x128, .f32⟩
  | 95 => ⟨S1024x128, .f32⟩
  | 96 => ⟨S1x1024x128, .f32⟩
  | 97 => ⟨S_, .i32⟩
  | 98 => ⟨S_, .i32⟩
  | 99 => ⟨S20x1024x128, .f32⟩
  | 100 => ⟨S_, .i32⟩
  | 101 => ⟨S_, .i32⟩
  | 102 => ⟨S1024x20x128, .f32⟩
  | 103 => ⟨S_, .i32⟩
  | 104 => ⟨S1024, .i32⟩
  | 105 => ⟨S1024, .i32⟩
  | 106 => ⟨S1024, .i32⟩
  | 107 => ⟨S_, .i32⟩
  | 108 => ⟨S1024, .i32⟩
  | 109 => ⟨S1024, .i1⟩
  | 110 => ⟨S_, .i32⟩
  | 111 => ⟨S1024, .i32⟩
  | 112 => ⟨S1024, .i32⟩
  | 113 => ⟨S1024, .i32⟩
  | 114 => ⟨S_, .i32⟩
  | 115 => ⟨S1024, .i32⟩
  | 116 => ⟨S1024, .i1⟩
  | 117 => ⟨S_, .i32⟩
  | 118 => ⟨S1024, .i32⟩
  | 119 => ⟨S1024, .i32⟩
  | 120 => ⟨S1024, .i32⟩
  | 121 => ⟨S1024x1, .i32⟩
  | 122 => ⟨S1024x1, .i32⟩
  | 123 => ⟨S1024x2, .i32⟩
  | 124 => ⟨S1024x128, .f32⟩
  | 125 => ⟨S1024x1000, .f32⟩
  | 126 => ⟨S1024x1000, .f32⟩
  | 127 => ⟨S1024x1000, .f32⟩
  | _ => ⟨S1024x20x1000, .f32⟩

abbrev hbmTy0_1 (i : Nat) : BufTy := match i % 128 with
  | 0 => ⟨S_, .f32⟩
  | 1 => ⟨S1024x1000, .f32⟩
  | 2 => ⟨S1024x1000, .f32⟩
  | 3 => ⟨S_, .f32⟩
  | 4 => ⟨S1024x1000, .f32⟩
  | 5 => ⟨S1024x1000, .f32⟩
  | 6 => ⟨S_, .f32⟩
  | 7 => ⟨S1024x1000, .f32⟩
  | 8 => ⟨S1024x1000, .f32⟩
  | 9 => ⟨S_, .f32⟩
  | 10 => ⟨S1000, .f32⟩
  | 11 => ⟨S1000, .f32⟩
  | 12 => ⟨S1x1000, .f32⟩
  | 13 => ⟨S1024x1000, .f32⟩
  | 14 => ⟨S1024x1000, .f32⟩
  | 15 => ⟨S1024x1000, .f32⟩
  | 16 => ⟨S_, .f32⟩
  | 17 => ⟨S_, .f32⟩
  | 18 => ⟨S1024x1000, .f32⟩
  | 19 => ⟨S1024x1000, .f32⟩
  | 20 => ⟨S_, .f32⟩
  | 21 => ⟨S1024x1000, .f32⟩
  | 22 => ⟨S1024x1000, .f32⟩
  | 23 => ⟨S1024x1000, .f32⟩
  | 24 => ⟨S_, .f32⟩
  | 25 => ⟨S1024x1000, .f32⟩
  | 26 => ⟨S1024x1000, .f32⟩
  | 27 => ⟨S1024x1000, .f32⟩
  | 28 => ⟨S1024x1000, .f32⟩
  | 29 => ⟨S1024x1000, .f32⟩
  | 30 => ⟨S_, .f32⟩
  | 31 => ⟨S1024x1000, .f32⟩
  | 32 => ⟨S1024x1000, .f32⟩
  | 33 => ⟨S_, .f32⟩
  | 34 => ⟨S1024x1000, .f32⟩
  | 35 => ⟨S1024x1000, .f32⟩
  | _ => ⟨S1024x20x1000, .f32⟩

abbrev hbmTy (i : Nat) : BufTy := match i / 128 with
  | 0 => hbmTy0_0 i
  | 1 => hbmTy0_1 i
  | _ => ⟨S1024x20x1000, .f32⟩

abbrev bufTy : (tb : Table) → Fin (tcTables nBuf tb) → BufTy
  | .hbm, ⟨i, _⟩ => hbmTy i
  | _, _ => ⟨S1024x20x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_call0_cst : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call1_cst : Ref sig .tc := ⟨.hbm, 22, rfl⟩
abbrev main_call1_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call2_cst : Ref sig .tc := ⟨.hbm, 31, rfl⟩
abbrev main_call2_v0 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_cst_0 : Ref sig .tc := ⟨.hbm, 36, rfl⟩
abbrev main_v18 : Ref sig .tc := ⟨.hbm, 37, rfl⟩
abbrev main_v19 : Ref sig .tc := ⟨.hbm, 38, rfl⟩
abbrev main_cst_1 : Ref sig .tc := ⟨.hbm, 39, rfl⟩
abbrev main_v20 : Ref sig .tc := ⟨.hbm, 40, rfl⟩
abbrev main_c : Ref sig .tc := ⟨.hbm, 41, rfl⟩
abbrev main_v21_0 : Ref sig .tc := ⟨.hbm, 42, rfl⟩
abbrev main_v21_1 : Ref sig .tc := ⟨.hbm, 43, rfl⟩
abbrev main_v21_2 : Ref sig .tc := ⟨.hbm, 44, rfl⟩
abbrev main_v21_3 : Ref sig .tc := ⟨.hbm, 45, rfl⟩
abbrev main_v21_4 : Ref sig .tc := ⟨.hbm, 46, rfl⟩
abbrev main_v21_5 : Ref sig .tc := ⟨.hbm, 47, rfl⟩
abbrev main_v21_6 : Ref sig .tc := ⟨.hbm, 48, rfl⟩
abbrev main_v21_7 : Ref sig .tc := ⟨.hbm, 49, rfl⟩
abbrev main_while0c_c_21 : Ref sig .tc := ⟨.hbm, 50, rfl⟩
abbrev main_while0c_v68 : Ref sig .tc := ⟨.hbm, 51, rfl⟩
abbrev main_while0b_call3_c : Ref sig .tc := ⟨.hbm, 52, rfl⟩
abbrev main_while0b_call3_c_0 : Ref sig .tc := ⟨.hbm, 53, rfl⟩
abbrev main_while0b_call3_v0 : Ref sig .tc := ⟨.hbm, 54, rfl⟩
abbrev main_while0b_v68 : Ref sig .tc := ⟨.hbm, 55, rfl⟩
abbrev main_while0b_v69 : Ref sig .tc := ⟨.hbm, 56, rfl⟩
abbrev main_while0b_v70 : Ref sig .tc := ⟨.hbm, 57, rfl⟩
abbrev main_while0b_v71 : Ref sig .tc := ⟨.hbm, 58, rfl⟩
abbrev main_while0b_v72 : Ref sig .tc := ⟨.hbm, 59, rfl⟩
abbrev main_while0b_v73 : Ref sig .tc := ⟨.hbm, 60, rfl⟩
abbrev main_while0b_v74 : Ref sig .tc := ⟨.hbm, 61, rfl⟩
abbrev main_while0b_v75 : Ref sig .tc := ⟨.hbm, 62, rfl⟩
abbrev main_while0b_v76 : Ref sig .tc := ⟨.hbm, 63, rfl⟩
abbrev main_while0b_v77 : Ref sig .tc := ⟨.hbm, 64, rfl⟩
abbrev main_while0b_v78 : Ref sig .tc := ⟨.hbm, 65, rfl⟩
abbrev main_while0b_v79 : Ref sig .tc := ⟨.hbm, 66, rfl⟩
abbrev main_while0b_v80 : Ref sig .tc := ⟨.hbm, 67, rfl⟩
abbrev main_while0b_cst_21 : Ref sig .tc := ⟨.hbm, 68, rfl⟩
abbrev main_while0b_v81 : Ref sig .tc := ⟨.hbm, 69, rfl⟩
abbrev main_while0b_v82 : Ref sig .tc := ⟨.hbm, 70, rfl⟩
abbrev main_while0b_cst_22 : Ref sig .tc := ⟨.hbm, 71, rfl⟩
abbrev main_while0b_v83 : Ref sig .tc := ⟨.hbm, 72, rfl⟩
abbrev main_while0b_v84 : Ref sig .tc := ⟨.hbm, 73, rfl⟩
abbrev main_while0b_v85 : Ref sig .tc := ⟨.hbm, 74, rfl⟩
abbrev main_while0b_v86 : Ref sig .tc := ⟨.hbm, 75, rfl⟩
abbrev main_while0b_cst_23 : Ref sig .tc := ⟨.hbm, 76, rfl⟩
abbrev main_while0b_v87 : Ref sig .tc := ⟨.hbm, 77, rfl⟩
abbrev main_while0b_v88 : Ref sig .tc := ⟨.hbm, 78, rfl⟩
abbrev main_while0b_cst_24 : Ref sig .tc := ⟨.hbm, 79, rfl⟩
abbrev main_while0b_v89 : Ref sig .tc := ⟨.hbm, 80, rfl⟩
abbrev main_while0b_v90 : Ref sig .tc := ⟨.hbm, 81, rfl⟩
abbrev main_while0b_v91 : Ref sig .tc := ⟨.hbm, 82, rfl⟩
abbrev main_while0b_v92 : Ref sig .tc := ⟨.hbm, 83, rfl⟩
abbrev main_while0b_v93 : Ref sig .tc := ⟨.hbm, 84, rfl⟩
abbrev main_while0b_cst_25 : Ref sig .tc := ⟨.hbm, 85, rfl⟩
abbrev main_while0b_v94 : Ref sig .tc := ⟨.hbm, 86, rfl⟩
abbrev main_while0b_v95 : Ref sig .tc := ⟨.hbm, 87, rfl⟩
abbrev main_while0b_cst_26 : Ref sig .tc := ⟨.hbm, 88, rfl⟩
abbrev main_while0b_v96 : Ref sig .tc := ⟨.hbm, 89, rfl⟩
abbrev main_while0b_v97 : Ref sig .tc := ⟨.hbm, 90, rfl⟩
abbrev main_while0b_v98 : Ref sig .tc := ⟨.hbm, 91, rfl⟩
abbrev main_while0b_v99 : Ref sig .tc := ⟨.hbm, 92, rfl⟩
abbrev main_while0b_v100 : Ref sig .tc := ⟨.hbm, 93, rfl⟩
abbrev main_while0b_v101 : Ref sig .tc := ⟨.hbm, 94, rfl⟩
abbrev main_while0b_v102 : Ref sig .tc := ⟨.hbm, 95, rfl⟩
abbrev main_while0b_call4_v0 : Ref sig .tc := ⟨.hbm, 96, rfl⟩
abbrev main_while0b_call4_c : Ref sig .tc := ⟨.hbm, 97, rfl⟩
abbrev main_while0b_call4_c_0 : Ref sig .tc := ⟨.hbm, 98, rfl⟩
abbrev main_while0b_v103 : Ref sig .tc := ⟨.hbm, 99, rfl⟩
abbrev main_while0b_c_27 : Ref sig .tc := ⟨.hbm, 100, rfl⟩
abbrev main_while0b_v104 : Ref sig .tc := ⟨.hbm, 101, rfl⟩
abbrev main_v22 : Ref sig .tc := ⟨.hbm, 102, rfl⟩
abbrev main_c_2 : Ref sig .tc := ⟨.hbm, 103, rfl⟩
abbrev main_v23 : Ref sig .tc := ⟨.hbm, 104, rfl⟩
abbrev main_v24 : Ref sig .tc := ⟨.hbm, 105, rfl⟩
abbrev main_v25 : Ref sig .tc := ⟨.hbm, 106, rfl⟩
abbrev main_c_3 : Ref sig .tc := ⟨.hbm, 107, rfl⟩
abbrev main_v26 : Ref sig .tc := ⟨.hbm, 108, rfl⟩
abbrev main_v27 : Ref sig .tc := ⟨.hbm, 109, rfl⟩
abbrev main_c_4 : Ref sig .tc := ⟨.hbm, 110, rfl⟩
abbrev main_v28 : Ref sig .tc := ⟨.hbm, 111, rfl⟩
abbrev main_v29 : Ref sig .tc := ⟨.hbm, 112, rfl⟩
abbrev main_v30 : Ref sig .tc := ⟨.hbm, 113, rfl⟩
abbrev main_c_5 : Ref sig .tc := ⟨.hbm, 114, rfl⟩
abbrev main_v31 : Ref sig .tc := ⟨.hbm, 115, rfl⟩
abbrev main_v32 : Ref sig .tc := ⟨.hbm, 116, rfl⟩
abbrev main_c_6 : Ref sig .tc := ⟨.hbm, 117, rfl⟩
abbrev main_v33 : Ref sig .tc := ⟨.hbm, 118, rfl⟩
abbrev main_v34 : Ref sig .tc := ⟨.hbm, 119, rfl⟩
abbrev main_v35 : Ref sig .tc := ⟨.hbm, 120, rfl⟩
abbrev main_v36 : Ref sig .tc := ⟨.hbm, 121, rfl⟩
abbrev main_v37 : Ref sig .tc := ⟨.hbm, 122, rfl⟩
abbrev main_v38 : Ref sig .tc := ⟨.hbm, 123, rfl⟩
abbrev main_v39 : Ref sig .tc := ⟨.hbm, 124, rfl⟩
abbrev main_v40 : Ref sig .tc := ⟨.hbm, 125, rfl⟩
abbrev main_v41 : Ref sig .tc := ⟨.hbm, 126, rfl⟩
abbrev main_v42 : Ref sig .tc := ⟨.hbm, 127, rfl⟩
abbrev main_cst_7 : Ref sig .tc := ⟨.hbm, 128, rfl⟩
abbrev main_v43 : Ref sig .tc := ⟨.hbm, 129, rfl⟩
abbrev main_v44 : Ref sig .tc := ⟨.hbm, 130, rfl⟩
abbrev main_cst_8 : Ref sig .tc := ⟨.hbm, 131, rfl⟩
abbrev main_v45 : Ref sig .tc := ⟨.hbm, 132, rfl⟩
abbrev main_v46 : Ref sig .tc := ⟨.hbm, 133, rfl⟩
abbrev main_cst_9 : Ref sig .tc := ⟨.hbm, 134, rfl⟩
abbrev main_v47 : Ref sig .tc := ⟨.hbm, 135, rfl⟩
abbrev main_v48 : Ref sig .tc := ⟨.hbm, 136, rfl⟩
abbrev main_call5_cst : Ref sig .tc := ⟨.hbm, 137, rfl⟩
abbrev main_call5_v0 : Ref sig .tc := ⟨.hbm, 138, rfl⟩
abbrev main_v49 : Ref sig .tc := ⟨.hbm, 139, rfl⟩
abbrev main_v50 : Ref sig .tc := ⟨.hbm, 140, rfl⟩
abbrev main_v51 : Ref sig .tc := ⟨.hbm, 141, rfl⟩
abbrev main_v52 : Ref sig .tc := ⟨.hbm, 142, rfl⟩
abbrev main_v53 : Ref sig .tc := ⟨.hbm, 143, rfl⟩
abbrev main_cst_10 : Ref sig .tc := ⟨.hbm, 144, rfl⟩
abbrev main_v54 : Ref sig .tc := ⟨.hbm, 145, rfl⟩
abbrev main_v55 : Ref sig .tc := ⟨.hbm, 146, rfl⟩
abbrev main_v56 : Ref sig .tc := ⟨.hbm, 147, rfl⟩
abbrev main_call6_cst : Ref sig .tc := ⟨.hbm, 148, rfl⟩
abbrev main_call6_v0 : Ref sig .tc := ⟨.hbm, 149, rfl⟩
abbrev main_v57 : Ref sig .tc := ⟨.hbm, 150, rfl⟩
abbrev main_v58 : Ref sig .tc := ⟨.hbm, 151, rfl⟩
abbrev main_cst_11 : Ref sig .tc := ⟨.hbm, 152, rfl⟩
abbrev main_v59 : Ref sig .tc := ⟨.hbm, 153, rfl⟩
abbrev main_v60 : Ref sig .tc := ⟨.hbm, 154, rfl⟩
abbrev main_v61 : Ref sig .tc := ⟨.hbm, 155, rfl⟩
abbrev main_v62 : Ref sig .tc := ⟨.hbm, 156, rfl⟩
abbrev main_v63 : Ref sig .tc := ⟨.hbm, 157, rfl⟩
abbrev main_cst_12 : Ref sig .tc := ⟨.hbm, 158, rfl⟩
abbrev main_v64 : Ref sig .tc := ⟨.hbm, 159, rfl⟩
abbrev main_v65 : Ref sig .tc := ⟨.hbm, 160, rfl⟩
abbrev main_cst_13 : Ref sig .tc := ⟨.hbm, 161, rfl⟩
abbrev main_v66 : Ref sig .tc := ⟨.hbm, 162, rfl⟩
abbrev main_v67 : Ref sig .tc := ⟨.hbm, 163, rfl⟩

abbrev nD : Nat := 1
abbrev τ : Topo := Topo.v7x

variable {F : FTy → Type} [FloatOps F]

abbrev main_while0_count : Scf.Loop 32 := ⟨0#32, 20#32, 1#32⟩
-- ==== Proof.KernelSteps.lean ====
/-
  The kernel's body, as the recursion it unrolls: twenty steps of the recurrent cell, four to a group that shares one
  basket encoding, then the head. `out_eq` states that what the generated frame says a grid point leaves in the output's
  buffer is that recursion; it holds whatever the floats are, for both sides are the same operations.
-/
module

public import proofs.«01_k».proof.Proof.Gen.KernelIdeal.Frame

@[expose] public section

set_option maxRecDepth 16384

noncomputable section

namespace Cert.Basket

open Idealize.ShloMosaic Cert.KernelIdeal Cert.KernelIdeal.Gen

variable {F : FTy → Type} [FloatOps F]

/-- The encodings of the four baskets that start at step `4 * g`, stacked: rows `128 * s …` are step `4 * g + s`. -/
def encode (x : Vec F S128x20x1000 .f32) (A : Vec F S1024x1024 .f32) (cb : Vec F S1x1 .f32) (Wr : Vec F S1000x128 .f32)
    (We : Vec F S1024x128 .f32) (be : Vec F S1x128 .f32) : ℕ → FVec F S512x128 .f32
  | 0 => k0_pay7 (k0_pay6 (View.ld cb r0_0) (View.ld x r0_1) (View.ld x r0_2) (View.ld x r0_3) (View.ld x r0_4)
      (View.ld A r0_5) (View.ld Wr r0_6) (View.ld We r0_7)) (View.ld be r0_8)
  | 1 => k0_pay7 (k0_pay6 (View.ld cb r0_0) (View.ld x r0_12) (View.ld x r0_13) (View.ld x r0_14) (View.ld x r0_15)
      (View.ld A r0_5) (View.ld Wr r0_6) (View.ld We r0_7)) (View.ld be r0_8)
  | 2 => k0_pay7 (k0_pay6 (View.ld cb r0_0) (View.ld x r0_16) (View.ld x r0_17) (View.ld x r0_18) (View.ld x r0_19)
      (View.ld A r0_5) (View.ld Wr r0_6) (View.ld We r0_7)) (View.ld be r0_8)
  | 3 => k0_pay7 (k0_pay6 (View.ld cb r0_0) (View.ld x r0_20) (View.ld x r0_21) (View.ld x r0_22) (View.ld x r0_23)
      (View.ld A r0_5) (View.ld Wr r0_6) (View.ld We r0_7)) (View.ld be r0_8)
  | _ => k0_pay7 (k0_pay6 (View.ld cb r0_0) (View.ld x r0_24) (View.ld x r0_25) (View.ld x r0_26) (View.ld x r0_27)
      (View.ld A r0_5) (View.ld Wr r0_6) (View.ld We r0_7)) (View.ld be r0_8)

/-- One step's rows of a stacked encoding. -/
def rows (E : FVec F S512x128 .f32) : ℕ → FVec F S128x128 .f32
  | 0 => extractStridedSlice S128x128 ![0, 0] E slices_S512x128_o0_0_S128x128
  | 1 => extractStridedSlice S128x128 ![128, 0] E slices_S512x128_o128_0_S128x128
  | 2 => extractStridedSlice S128x128 ![256, 0] E slices_S512x128_o256_0_S128x128
  | _ => extractStridedSlice S128x128 ![384, 0] E slices_S512x128_o384_0_S128x128

/-- The four gates of one step before their nonlinearities: the encoding and the hidden state side by side, times the
    stacked weights, plus the bias. -/
def gates (e h : FVec F S128x128 .f32) (W : Vec F S256x512 .f32) (bl : Vec F S1x512 .f32) : FVec F S128x512 .f32 :=
  addf (matmul dot_S128x256_S256x512_S128x512_1_0_0_1_n_n none
      (concatenate S128x256 1 [⟨S128x128, e⟩, ⟨S128x128, h⟩] concatenates_S128x128_S128x128_S128x256_d1)
      (shapeCast S256x512 W shapeCasts_S256x512_S256x512) (constant S128x512 .f32 0x00000000#32))
    (broadcastTo S128x512 (shapeCast S1x512 bl shapeCasts_S1x512_S1x512) broadcasts_S1x512_S128x512)

/-- The cell state after one step. -/
def cellC (z : FVec F S128x512 .f32) (c : FVec F S128x128 .f32) : FVec F S128x128 .f32 :=
  addf (mulf (logistic (extractStridedSlice S128x128 ![0, 128] z slices_S128x512_o0_128_S128x128)) c)
    (mulf (logistic (extractStridedSlice S128x128 ![0, 0] z slices_S128x512_o0_0_S128x128))
      (tanh (extractStridedSlice S128x128 ![0, 256] z slices_S128x512_o0_256_S128x128)))

/-- The hidden state after one step. -/
def cellH (z : FVec F S128x512 .f32) (c : FVec F S128x128 .f32) : FVec F S128x128 .f32 :=
  mulf (logistic (extractStridedSlice S128x128 ![0, 384] z slices_S128x512_o0_384_S128x128)) (tanh (cellC z c))

/-- Hidden and cell state before step `t`, from zero. -/
def state (E : ℕ → FVec F S512x128 .f32) (W : Vec F S256x512 .f32) (bl : Vec F S1x512 .f32) :
    ℕ → FVec F S128x128 .f32 × FVec F S128x128 .f32
  | 0 => (broadcast S128x128 (Scalar.ofBits .f32 0x00000000#32), broadcast S128x128 (Scalar.ofBits .f32 0x00000000#32))
  | t + 1 => (cellH (gates (rows (E (t / 4)) (t % 4)) (state E W bl t).1 W bl) (state E W bl t).2,
      cellC (gates (rows (E (t / 4)) (t % 4)) (state E W bl t).1 W bl) (state E W bl t).2)

/-- The number of step `t` as a binary32 word. -/
def stepWord : ℕ → BitVec 32
  | 0 => 0x00000000#32
  | 1 => 0x3F800000#32
  | 2 => 0x40000000#32
  | 3 => 0x40400000#32
  | 4 => 0x40800000#32
  | 5 => 0x40A00000#32
  | 6 => 0x40C00000#32
  | 7 => 0x40E00000#32
  | 8 => 0x41000000#32
  | 9 => 0x41100000#32
  | 10 => 0x41200000#32
  | 11 => 0x41300000#32
  | 12 => 0x41400000#32
  | 13 => 0x41500000#32
  | 14 => 0x41600000#32
  | 15 => 0x41700000#32
  | 16 => 0x41800000#32
  | 17 => 0x41880000#32
  | 18 => 0x41900000#32
  | _ => 0x41980000#32

/-- Rows whose last basket is step `t` take the new hidden state, the others keep what they have. -/
def keep (len : Vec F S128x1 .f32) (w : BitVec 32) (h old : FVec F S128x128 .f32) : FVec F S128x128 .f32 :=
  select (broadcastTo S128x128 (shapeCast S128x1 (cmpf .oeq (shapeCast S128x1 len shapeCasts_S128x1_S128x1)
    (broadcast S128x1 (Scalar.ofBits .f32 w : F .f32))) shapeCasts_S128x1_S128x1) broadcasts_S128x1_S128x128) h old

/-- What has been kept before step `t`, of the hidden states `H` before each step. -/
def kept (len : Vec F S128x1 .f32) (H : ℕ → FVec F S128x128 .f32) : ℕ → FVec F S128x128 .f32
  | 0 => broadcast S128x128 (Scalar.ofBits .f32 0x00000000#32)
  | t + 1 => keep len (stepWord t) (H (t + 1)) (kept len H t)

/-- The next-basket scores of the kept hidden state. -/
def scores (hT : FVec F S128x128 .f32) (WH : Vec F S128x1024 .f32) : FVec F S128x1024 .f32 :=
  logistic (matmul dot_S128x128_S128x1024_S128x1024_1_0_0_1_n_n none hT
    (shapeCast S128x1024 WH shapeCasts_S128x1024_S128x1024) (constant S128x1024 .f32 0x00000000#32))

/-- The scores mixed, half and half, with one propagation of themselves over the item graph. -/
def mixed (p : FVec F S128x1024 .f32) (A : Vec F S1024x1024 .f32) (ib : Vec F S1x1024 .f32) : FVec F S128x1024 .f32 :=
  addf (mulf (broadcast S128x1024 (Scalar.ofBits .f32 0x3F000000#32)) p)
    (mulf (broadcast S128x1024 (Scalar.ofBits .f32 0x3F000000#32))
      (addf (mulf p (broadcastTo S128x1024 (maximumf (shapeCast S1x1024 ib shapeCasts_S1x1024_S1x1024)
          (broadcast S1x1024 (Scalar.ofBits .f32 0x00000000#32))) broadcasts_S1x1024_S128x1024))
        (maximumf (matmul dot_S128x1024_S1024x1024_S128x1024_1_0_0_1_n_n none p
            (shapeCast S1024x1024 A shapeCasts_S1024x1024_S1024x1024) (constant S128x1024 .f32 0x00000000#32))
          (broadcast S128x1024 (Scalar.ofBits .f32 0x00000000#32)))))

/-- The predictions: the mixed scores through the logistic function, the padded items cut off. -/
def head (hT : FVec F S128x128 .f32) (WH : Vec F S128x1024 .f32) (A : Vec F S1024x1024 .f32) (ib : Vec F S1x1024 .f32) :
    FVec F S128x1000 .f32 :=
  extractStridedSlice S128x1000 ![0, 0] (logistic (mixed (scores hT WH) A ib)) slices_S128x1024_o0_0_S128x1000

/-- One block of predictions, from the blocks and arrays the body reads. -/
def block (x : Vec F S128x20x1000 .f32) (len : Vec F S128x1 .f32) (A : Vec F S1024x1024 .f32) (ib : Vec F S1x1024 .f32)
    (cb : Vec F S1x1 .f32) (Wr : Vec F S1000x128 .f32) (We : Vec F S1024x128 .f32) (be : Vec F S1x128 .f32)
    (W : Vec F S256x512 .f32) (bl : Vec F S1x512 .f32) (WH : Vec F S128x1024 .f32) : FVec F S128x1000 .f32 :=
  head (kept (View.ld len r0_11) (fun t => (state (encode x A cb Wr We be) (View.ld W r0_9) (View.ld bl r0_10) t).1) 20)
    (View.ld WH r0_28) (View.ld A r0_29) (View.ld ib r0_30)

section Unroll

variable (x0 : Vec F S128x20x1000 .f32) (x1 : Vec F S128x1 .f32) (x2 : Vec F S1024x1024 .f32) (x3 : Vec F S1x1024 .f32)
  (x4 : Vec F S1x1 .f32) (x5 : Vec F S1000x128 .f32) (x6 : Vec F S1024x128 .f32) (x7 : Vec F S1x128 .f32)
  (x8 : Vec F S256x512 .f32) (x9 : Vec F S1x512 .f32) (x10 : Vec F S128x1024 .f32)

/-- What a grid point leaves in the output's buffer: one store of the whole block. -/
theorem out_eq : out0_11 x0 x1 x2 x3 x4 x5 x6 x7 x8 x9 x10 = View.canon [⟨r0_31, block x0 x1 x2 x3 x4 x5 x6 x7 x8 x9 x10⟩] := rfl

end Unroll

end Cert.Basket

end
-- ==== Proof.Model.lean ====
/-
  The mathematics of the model, for one sequence of baskets: the basket encoder, the recurrent cell, the choice of the
  last hidden state and the next-basket head, over the extended reals; and the two laws by which the kernel's
  association of them is the reference's. Nothing here mentions a program.
-/
module

public import Idealize.ShloMosaic.Lib.Pointwise

@[expose] public section

noncomputable section

namespace Cert.Basket

open Idealize.ShloMosaic

/-- The rectifier. -/
def relu (x : EReal) : EReal := max x 0

/-- What the rectifier gives is not negative. -/
theorem relu_nonneg (x : EReal) : 0 ≤ relu x := le_max_right _ _

/-- What one basket `x` says of item `i`, thresholded: the items it is correlated with. -/
def spread {n : ℕ} (x : Fin n → EReal) (A : Fin n → Fin n → EReal) (thr : EReal) (i : Fin n) : EReal :=
  relu (∑ k, x k * A k i - thr)

/-- A basket's encoding: its items and what they are correlated with, through the dense layer. -/
def embed (x : Fin 1000 → EReal) (A : Fin 1000 → Fin 1000 → EReal) (IB : Fin 1000 → EReal) (thr : EReal)
    (W : Fin 1000 → Fin 64 → EReal) (be : Fin 64 → EReal) (e : Fin 64) : EReal :=
  relu (∑ i, (x i * relu (IB i) + spread x A thr i) * W i e + be e)

/-- The encoder with the item bias folded into the weights, for a basket whose entries are not negative: the product
    with a sum is the sum of the products, because both terms of the sum are then not negative. -/
theorem embed_folded (x : Fin 1000 → EReal) (A : Fin 1000 → Fin 1000 → EReal) (IB : Fin 1000 → EReal) (thr : EReal)
    (W : Fin 1000 → Fin 64 → EReal) (be : Fin 64 → EReal) (e : Fin 64) (hx : ∀ i, 0 ≤ x i) :
    relu (∑ i, x i * (relu (IB i) * W i e) + ∑ i, spread x A thr i * W i e + be e) = embed x A IB thr W be e := by
  unfold embed
  rw [← Finset.sum_add_distrib]
  refine congrArg (fun s => relu (s + be e)) (Finset.sum_congr rfl fun i _ => ?_)
  rw [EReal.right_distrib_of_nonneg (a := x i * relu (IB i)) (b := spread x A thr i)
    (mul_nonneg (hx i) (relu_nonneg _)) (relu_nonneg _), mul_assoc]

/-- The four gates of one step before their nonlinearities, 128 units each, in the order input, forget, cell, output. -/
def gate (Wx : Fin 64 → Fin 512 → EReal) (Wh : Fin 128 → Fin 512 → EReal) (b : Fin 512 → EReal) (e : Fin 64 → EReal)
    (h : Fin 128 → EReal) (u : Fin 512) : EReal :=
  ∑ k, e k * Wx k u + ∑ k, h k * Wh k u + b u

/-- The cell state after one step. -/
def nextC (z : Fin 512 → EReal) (c : Fin 128 → EReal) (u : Fin 128) : EReal :=
  Ideal.logistic (z ⟨128 + u.val, by omega⟩) * c u
    + Ideal.logistic (z ⟨u.val, by omega⟩) * Ideal.tanh (z ⟨256 + u.val, by omega⟩)

/-- The hidden state after one step. -/
def nextH (z : Fin 512 → EReal) (c : Fin 128 → EReal) (u : Fin 128) : EReal :=
  Ideal.logistic (z ⟨384 + u.val, by omega⟩) * Ideal.tanh (nextC z c u)

/-- Hidden and cell state before step `t`, from zero, of the encodings `e` of the steps. -/
def lstm (Wx : Fin 64 → Fin 512 → EReal) (Wh : Fin 128 → Fin 512 → EReal) (b : Fin 512 → EReal)
    (e : ℕ → Fin 64 → EReal) : ℕ → (Fin 128 → EReal) × (Fin 128 → EReal)
  | 0 => (fun _ => 0, fun _ => 0)
  | t + 1 => (nextH (gate Wx Wh b (e t) (lstm Wx Wh b e t).1) (lstm Wx Wh b e t).2,
      nextC (gate Wx Wh b (e t) (lstm Wx Wh b e t).1) (lstm Wx Wh b e t).2)

/-- The score of item `j` from a hidden state. -/
def score (h : Fin 128 → EReal) (WH : Fin 128 → Fin 1000 → EReal) (j : Fin 1000) : EReal :=
  Ideal.logistic (∑ k, h k * WH k j)

/-- The prediction for item `j`: the scores mixed, half and half, with one propagation of themselves. -/
def predict (p : Fin 1000 → EReal) (A : Fin 1000 → Fin 1000 → EReal) (IB : Fin 1000 → EReal) (j : Fin 1000) : EReal :=
  Ideal.logistic (Ideal.ofBits .f32 0x3F000000#32 * p j
    + Ideal.ofBits .f32 0x3F000000#32 * (p j * relu (IB j) + relu (∑ i, p i * A i j)))

/-- A sum over a range padded with terms that vanish is the sum over the range. -/
theorem sum_padded {a n : ℕ} (h : a ≤ n) (f : Fin n → EReal) (g : Fin a → EReal)
    (hf : ∀ i : Fin a, f ⟨i.val, by omega⟩ = g i) (h0 : ∀ i : Fin n, a ≤ i.val → f i = 0) :
    ∑ i, f i = ∑ i, g i := by
  obtain ⟨d, rfl⟩ := Nat.exists_eq_add_of_le h
  rw [Fin.sum_univ_add, Finset.sum_eq_zero (s := Finset.univ) (f := fun i : Fin d => f (Fin.natAdd a i))
    (fun i _ => h0 _ (by simp)), add_zero]
  exact Finset.sum_congr rfl fun i _ => hf i

/-- The arrays the claim is about: no basket entry is negative, and every sequence has one to twenty baskets. -/
def Admissible (x : (⟨3, ![1024, 20, 1000]⟩ : Shape).Idx → EReal) (len : (⟨1, ![1024]⟩ : Shape).Idx → BitVec 32) : Prop :=
  (∀ j, 0 ≤ x j) ∧ ∀ j, 1 ≤ (len j).toInt ∧ (len j).toInt ≤ 20

/-- The encodings of the baskets of row `r`, by step. -/
def encodings (x : (⟨3, ![1024, 20, 1000]⟩ : Shape).Idx → EReal) (A : (⟨2, ![1000, 1000]⟩ : Shape).Idx → EReal)
    (IB : (⟨1, ![1000]⟩ : Shape).Idx → EReal) (cb : (⟨0, ![]⟩ : Shape).Idx → EReal)
    (We : (⟨2, ![1000, 64]⟩ : Shape).Idx → EReal) (be : (⟨1, ![64]⟩ : Shape).Idx → EReal) (r : Fin 1024) (t : ℕ) :
    Fin 64 → EReal :=
  embed (fun i => x (ix3 r ⟨t % 20, Nat.mod_lt _ (by decide)⟩ i)) (fun i k => A (ix2 i k)) (fun i => IB (ix1 i))
    (max (cb ix0) (-cb ix0)) (fun i k => We (ix2 i k)) (fun k => be (ix1 k))

/-- The cell run over a row's encodings, with the weights and the bias as arrays. -/
def run (Wx : (⟨2, ![64, 512]⟩ : Shape).Idx → EReal) (Wh : (⟨2, ![128, 512]⟩ : Shape).Idx → EReal)
    (b : (⟨1, ![512]⟩ : Shape).Idx → EReal) (e : ℕ → Fin 64 → EReal) (t : ℕ) : (Fin 128 → EReal) × (Fin 128 → EReal) :=
  lstm (fun k u => Wx (ix2 k u)) (fun k u => Wh (ix2 k u)) (fun u => b (ix1 u)) e t

/-- The predictions for a batch: each row's baskets encoded, its recurrent cell run over the first `len` of them, the last
    hidden state scored. -/
def answer (x : (⟨3, ![1024, 20, 1000]⟩ : Shape).Idx → EReal) (len : (⟨1, ![1024]⟩ : Shape).Idx → BitVec 32)
    (A : (⟨2, ![1000, 1000]⟩ : Shape).Idx → EReal) (IB : (⟨1, ![1000]⟩ : Shape).Idx → EReal)
    (cb : (⟨0, ![]⟩ : Shape).Idx → EReal) (We : (⟨2, ![1000, 64]⟩ : Shape).Idx → EReal)
    (be : (⟨1, ![64]⟩ : Shape).Idx → EReal) (Wx : (⟨2, ![64, 512]⟩ : Shape).Idx → EReal)
    (Wh : (⟨2, ![128, 512]⟩ : Shape).Idx → EReal) (b : (⟨1, ![512]⟩ : Shape).Idx → EReal)
    (WH : (⟨2, ![128, 1000]⟩ : Shape).Idx → EReal) (j : (⟨2, ![1024, 1000]⟩ : Shape).Idx) : EReal :=
  predict (score (run Wx Wh b (encodings x A IB cb We be (j 0)) (len (ix1 (j 0))).toInt.toNat).1 (fun k i => WH (ix2 k i)))
    (fun i k => A (ix2 i k)) (fun i => IB (ix1 i)) (j 1)

end Cert.Basket

end
-- ==== Proof.KernelPoint.lean ====
/-
  The recursion of `KernelSteps.lean`, read at an index over the extended reals: it is the model's (`Model.lean`), under
  hypotheses that say what the body's blocks and arrays hold.
-/
module

public import proofs.«01_k».proof.Proof.KernelSteps
public import proofs.«01_k».proof.Proof.Model
public import Idealize.ShloMosaic.Lib.Pointwise

@[expose] public section

set_option maxRecDepth 16384

noncomputable section

namespace Cert.Basket

open Idealize.ShloMosaic Cert.KernelIdeal Cert.KernelIdeal.Gen

/-! ## One step of the cell -/

/-- The gates at an index: the encoding's part, the hidden state's part and the bias. -/
theorem gates_apply (e h : FVec Ideal S128x128 .f32) (W : Vec Ideal S256x512 .f32) (bl : Vec Ideal S1x512 .f32)
    (r : Fin 128) (u : Fin 512) :
    gates e h W bl (ix2 r u) = (∑ k : Fin 128, e (ix2 r k) * W (ix2 ⟨k.val, by omega⟩ u))
      + (∑ k : Fin 128, h (ix2 r k) * W (ix2 ⟨128 + k.val, by omega⟩ u)) + bl (ix2 0 u) := by
  pointwise [gates]

/-- The cell state after a step is the model's, row by row. -/
theorem cellC_apply (z : FVec Ideal S128x512 .f32) (c : FVec Ideal S128x128 .f32) (r u : Fin 128) :
    cellC z c (ix2 r u) = nextC (fun v => z (ix2 r v)) (fun v => c (ix2 r v)) u := by
  pointwise [cellC, nextC]

/-- The hidden state after a step is the model's, row by row. -/
theorem cellH_apply (z : FVec Ideal S128x512 .f32) (c : FVec Ideal S128x128 .f32) (r u : Fin 128) :
    cellH z c (ix2 r u) = nextH (fun v => z (ix2 r v)) (fun v => c (ix2 r v)) u := by
  unfold cellH nextH
  rw [← cellC_apply]
  pointwise

/-- The kernel's cell is the model's: row `r` of the states before step `t`, where the encodings' first 64 columns are `e`,
    the stacked weights hold `Wx`, then 64 rows of zeros, then `Wh`, and the bias row holds `b`. -/
theorem state_apply (E : ℕ → FVec Ideal S512x128 .f32) (W : Vec Ideal S256x512 .f32) (bl : Vec Ideal S1x512 .f32)
    (Wx : Fin 64 → Fin 512 → EReal) (Wh : Fin 128 → Fin 512 → EReal) (b : Fin 512 → EReal) (r : Fin 128)
    (e : ℕ → Fin 64 → EReal)
    (hE : ∀ t < 20, ∀ k : Fin 64, rows (E (t / 4)) (t % 4) (ix2 r ⟨k.val, by omega⟩) = e t k)
    (hWx : ∀ (k : Fin 64) u, W (ix2 ⟨k.val, by omega⟩ u) = Wx k u)
    (hW0 : ∀ (k : Fin 256) u, 64 ≤ k.val → k.val < 128 → W (ix2 k u) = 0)
    (hWh : ∀ (k : Fin 128) u, W (ix2 ⟨128 + k.val, by omega⟩ u) = Wh k u)
    (hb : ∀ u, bl (ix2 0 u) = b u) (t : ℕ) (ht : t ≤ 20) :
    (∀ u, (state E W bl t).1 (ix2 r u) = (lstm Wx Wh b e t).1 u)
      ∧ ∀ u, (state E W bl t).2 (ix2 r u) = (lstm Wx Wh b e t).2 u := by
  induction t with
  | zero => exact ⟨fun u => by pointwise [state, lstm], fun u => by pointwise [state, lstm]⟩
  | succ t ih =>
    obtain ⟨ih1, ih2⟩ := ih (by omega)
    have hz : (fun u => gates (rows (E (t / 4)) (t % 4)) (state E W bl t).1 W bl (ix2 r u))
        = gate Wx Wh b (e t) (lstm Wx Wh b e t).1 := by
      funext u
      rw [gates_apply, gate, hb]
      refine congrArg₂ (fun a c => a + c + b u) ?_ (Finset.sum_congr rfl fun k _ => by rw [ih1, hWh])
      refine sum_padded (by decide) _ _ (fun k => ?_) fun k hk => ?_
      · rw [hE t (by omega)]
        exact congrArg (e t k * ·) (hWx k u)
      · rw [hW0 _ _ hk (by simp), mul_zero]
    have hc : (fun u => (state E W bl t).2 (ix2 r u)) = (lstm Wx Wh b e t).2 := funext ih2
    refine ⟨fun u => ?_, fun u => ?_⟩
    · exact (cellH_apply (gates (rows (E (t / 4)) (t % 4)) (state E W bl t).1 W bl) (state E W bl t).2 r u).trans
        (by rw [hz, hc]; rfl)
    · exact (cellC_apply (gates (rows (E (t / 4)) (t % 4)) (state E W bl t).1 W bl) (state E W bl t).2 r u).trans
        (by rw [hz, hc]; rfl)

/-! ## The last hidden state -/

/-- The word of step `t` is the number `t`. -/
theorem stepWord_val : ∀ t < 20, Ideal.ofBits .f32 (stepWord t) = ((t : ℝ) : EReal) := by
  intro t ht
  interval_cases t <;> simp [stepWord, Ideal.ofBits, Ideal.ieee] <;> rw [← EReal.coe_mul] <;> norm_num

/-- Where a row's last step is `n - 1`, what is kept from step `n` on is the hidden state after it. -/
theorem kept_apply (len : Vec Ideal S128x1 .f32) (H : ℕ → FVec Ideal S128x128 .f32) (r u : Fin 128) (n : ℕ) (hn : 1 ≤ n)
    (hlen : len (ix2 r 0) = (((n - 1 : ℕ) : ℝ) : EReal)) (t : ℕ) (ht : t ≤ 20) (hnt : n ≤ t) :
    kept len H t (ix2 r u) = H n (ix2 r u) := by
  induction t with
  | zero => omega
  | succ t ih =>
    have key : kept len H (t + 1) (ix2 r u)
        = if len (ix2 r 0) = Ideal.ofBits .f32 (stepWord t) then H (t + 1) (ix2 r u) else kept len H t (ix2 r u) := by
      rw [kept]
      pointwise [keep]
    rw [key, hlen, stepWord_val t (by omega)]
    by_cases h : n = t + 1
    · subst h
      rw [if_pos (by simp)]
    · rw [if_neg ?_, ih (by omega) (by omega)]
      intro hh
      have := EReal.coe_injective hh
      have : n - 1 = t := by exact_mod_cast this
      omega

/-! ## The encoder -/

/-- Four baskets stacked and encoded together: the rows of each are its own encoding. -/
theorem embed_rows (cb : Vec Ideal S1x1 .f32) (a : Fin 4 → Vec Ideal S128x1x1000 .f32) (A : Vec Ideal S1000x1024 .f32)
    (Wr : Vec Ideal S1000x128 .f32) (We : Vec Ideal S1024x128 .f32) (be : Vec Ideal S1x128 .f32) (s : Fin 4)
    (r k : Fin 128) :
    rows (k0_pay7 (k0_pay6 cb (a 0) (a 1) (a 2) (a 3) A Wr We) be) s (ix2 r k)
      = relu ((∑ i : Fin 1000, a s (ix3 r 0 i) * Wr (ix2 i k))
        + (∑ j : Fin 1024, relu ((∑ i : Fin 1000, a s (ix3 r 0 i) * A (ix2 i j)) - max (cb (ix2 0 0)) (-cb (ix2 0 0)))
            * We (ix2 j k)) + be (ix2 0 k)) := by
  have c2 : ¬ 256 + r.val < 128 := by omega
  have c2' : ¬ 256 + r.val - 128 < 128 := by omega
  have e2 : 256 + r.val - 128 - 128 = r.val := by omega
  have c3 : ¬ 384 + r.val < 128 := by omega
  have c3' : ¬ 384 + r.val - 128 < 128 := by omega
  have c3'' : ¬ 384 + r.val - 128 - 128 < 128 := by omega
  have e3 : 384 + r.val - 128 - 128 - 128 = r.val := by omega
  match s with
  | 0 => pointwise [rows, k0_pay7, k0_pay6, k0_pay2, relu]; rfl
  | 1 => pointwise [rows, k0_pay7, k0_pay6, k0_pay2, relu]; rfl
  | 2 => pointwise [rows, k0_pay7, k0_pay6, k0_pay2, relu]; simp only [c2, c2', e2, r.isLt, dite_true, dite_false]; rfl
  | 3 => pointwise [rows, k0_pay7, k0_pay6, k0_pay2, relu]; simp only [c3, c3', c3'', e3, r.isLt, dite_true, dite_false]; rfl

/-- Row `r` of the encoding of step `4 * g + s`. -/
theorem encode_apply (x : Vec Ideal S128x20x1000 .f32) (A : Vec Ideal S1024x1024 .f32) (cb : Vec Ideal S1x1 .f32)
    (Wr : Vec Ideal S1000x128 .f32) (We : Vec Ideal S1024x128 .f32) (be : Vec Ideal S1x128 .f32) (r k : Fin 128)
    (g s : ℕ) (hg : g < 5) (hs : s < 4) :
    rows (encode x A cb Wr We be g) s (ix2 r k)
      = relu ((∑ i : Fin 1000, x (ix3 r ⟨4 * g + s, by omega⟩ i) * Wr (ix2 i k))
        + (∑ j : Fin 1024, relu ((∑ i : Fin 1000, x (ix3 r ⟨4 * g + s, by omega⟩ i) * A (ix2 ⟨i.val, by omega⟩ j))
            - max (cb (ix2 0 0)) (-cb (ix2 0 0))) * We (ix2 j k)) + be (ix2 0 k)) := by
  have inb : ∀ t : Fin 4, ∀ a, (![0, 4 * g + t.val, 0] : Fin 3 → ℕ) a + S128x1x1000.size a ≤ S128x20x1000.size a := by
    intro t a
    match a with
    | 0 => show 0 + 128 ≤ 128; omega
    | 1 => show 4 * g + t.val + 1 ≤ 20; omega
    | 2 => show 0 + 1000 ≤ 1000; omega
  have h := embed_rows (View.ld cb r0_0)
    (fun t => View.ld x (Rect.unit (s := S128x20x1000) ![0, 4 * g + t.val, 0] S128x1x1000.size (inb t)))
    (View.ld A r0_5) (View.ld Wr r0_6) (View.ld We r0_7) (View.ld be r0_8) ⟨s, hs⟩ r k
  have he : encode x A cb Wr We be g = k0_pay7 (k0_pay6 (View.ld cb r0_0)
      (View.ld x (Rect.unit (s := S128x20x1000) ![0, 4 * g + 0, 0] S128x1x1000.size (inb 0)))
      (View.ld x (Rect.unit (s := S128x20x1000) ![0, 4 * g + 1, 0] S128x1x1000.size (inb 1)))
      (View.ld x (Rect.unit (s := S128x20x1000) ![0, 4 * g + 2, 0] S128x1x1000.size (inb 2)))
      (View.ld x (Rect.unit (s := S128x20x1000) ![0, 4 * g + 3, 0] S128x1x1000.size (inb 3)))
      (View.ld A r0_5) (View.ld Wr r0_6) (View.ld We r0_7)) (View.ld be r0_8) := by
    interval_cases g <;> rfl
  rw [he]
  refine h.trans ?_
  pointwise

/-! ## The head -/

/-- The scores at an index: the logistic function of a row times a column. -/
theorem scores_apply (hT : FVec Ideal S128x128 .f32) (WH : Vec Ideal S128x1024 .f32) (r : Fin 128) (j : Fin 1024) :
    scores hT WH (ix2 r j) = Ideal.logistic (∑ k : Fin 128, hT (ix2 r k) * WH (ix2 k j)) := by
  pointwise [scores]

/-- The mixed scores at an index, over the padded items. -/
theorem mixed_apply (p : FVec Ideal S128x1024 .f32) (A : Vec Ideal S1024x1024 .f32) (ib : Vec Ideal S1x1024 .f32)
    (r : Fin 128) (j : Fin 1024) :
    mixed p A ib (ix2 r j) = Ideal.ofBits .f32 0x3F000000#32 * p (ix2 r j)
      + Ideal.ofBits .f32 0x3F000000#32 * (p (ix2 r j) * relu (ib (ix2 0 j)) + relu (∑ i : Fin 1024, p (ix2 r i) * A (ix2 i j))) := by
  pointwise [mixed, relu]

/-- The predictions at an index are the mixed scores' logistic function there. -/
theorem head_apply (hT : FVec Ideal S128x128 .f32) (WH : Vec Ideal S128x1024 .f32) (A : Vec Ideal S1024x1024 .f32)
    (ib : Vec Ideal S1x1024 .f32) (r : Fin 128) (j : Fin 1000) :
    head hT WH A ib (ix2 r j) = Ideal.logistic (mixed (scores hT WH) A ib (ix2 r ⟨j.val, by omega⟩)) := by
  pointwise [head]

/-! ## The block -/

/-- One row of a block of predictions is the model's, of what the body's blocks and arrays hold: `X` the row's baskets,
    `n` the number of them that count, `A`, `IB`, `cb` the item graph, its bias and its threshold, `We`, `be` the encoder's
    weights, `Wx`, `Wh`, `b` the cell's, `WH` the head's. -/
theorem block_apply (x : Vec Ideal S128x20x1000 .f32) (len : Vec Ideal S128x1 .f32) (Ap : Vec Ideal S1024x1024 .f32)
    (ib : Vec Ideal S1x1024 .f32) (cb : Vec Ideal S1x1 .f32) (Wr : Vec Ideal S1000x128 .f32) (Wep : Vec Ideal S1024x128 .f32)
    (bep : Vec Ideal S1x128 .f32) (W : Vec Ideal S256x512 .f32) (bl : Vec Ideal S1x512 .f32) (WHp : Vec Ideal S128x1024 .f32)
    (X : ℕ → Fin 1000 → EReal) (n : ℕ) (A : Fin 1000 → Fin 1000 → EReal) (IB : Fin 1000 → EReal)
    (We : Fin 1000 → Fin 64 → EReal) (be : Fin 64 → EReal)
    (Wx : Fin 64 → Fin 512 → EReal) (Wh : Fin 128 → Fin 512 → EReal) (b : Fin 512 → EReal)
    (WH : Fin 128 → Fin 1000 → EReal) (r : Fin 128) (j : Fin 1000)
    (hx : ∀ (t : Fin 20) i, x (ix3 r t i) = X t i) (hx0 : ∀ (t : ℕ) (_ : t < 20) i, 0 ≤ X t i)
    (hn : 1 ≤ n) (hn' : n ≤ 20) (hlen : len (ix2 r 0) = (((n - 1 : ℕ) : ℝ) : EReal))
    (hA : ∀ i k : Fin 1000, Ap (ix2 ⟨i.val, by omega⟩ ⟨k.val, by omega⟩) = A i k)
    (hA0 : ∀ i k : Fin 1024, 1000 ≤ i.val → Ap (ix2 i k) = 0)
    (hib : ∀ k : Fin 1000, ib (ix2 0 ⟨k.val, by omega⟩) = IB k)
    (hWr : ∀ (i : Fin 1000) (k : Fin 64), Wr (ix2 i ⟨k.val, by omega⟩) = relu (IB i) * We i k)
    (hWe : ∀ (i : Fin 1000) (k : Fin 64), Wep (ix2 ⟨i.val, by omega⟩ ⟨k.val, by omega⟩) = We i k)
    (hWe0 : ∀ (i : Fin 1024) (k : Fin 128), 1000 ≤ i.val → Wep (ix2 i k) = 0)
    (hbe : ∀ k : Fin 64, bep (ix2 0 ⟨k.val, by omega⟩) = be k)
    (hWx : ∀ (k : Fin 64) u, W (ix2 ⟨k.val, by omega⟩ u) = Wx k u)
    (hW0 : ∀ (k : Fin 256) u, 64 ≤ k.val → k.val < 128 → W (ix2 k u) = 0)
    (hWh : ∀ (k : Fin 128) u, W (ix2 ⟨128 + k.val, by omega⟩ u) = Wh k u)
    (hb : ∀ u, bl (ix2 0 u) = b u)
    (hWH : ∀ k (i : Fin 1000), WHp (ix2 k ⟨i.val, by omega⟩) = WH k i) :
    block x len Ap ib cb Wr Wep bep W bl WHp (ix2 r j)
      = predict (score (lstm Wx Wh b
          (fun t => embed (X t) A IB (max (cb (ix2 0 0)) (-cb (ix2 0 0))) We be) n).1 WH) A IB j := by
  have hE : ∀ t < 20, ∀ k : Fin 64, rows (encode x Ap cb Wr Wep bep (t / 4)) (t % 4) (ix2 r ⟨k.val, by omega⟩)
      = embed (X t) A IB (max (cb (ix2 0 0)) (-cb (ix2 0 0))) We be k := by
    intro t ht k
    rw [encode_apply _ _ _ _ _ _ _ _ _ _ (by omega) (by omega), ← embed_folded _ _ _ _ _ _ _ (hx0 t ht), hbe]
    have hX : ∀ i, x (ix3 r ⟨4 * (t / 4) + t % 4, by omega⟩ i) = X t i := fun i =>
      (hx _ i).trans (congrArg (X · i) (Nat.div_add_mod t 4))
    refine congrArg₂ (fun p q => relu (p + q + be k)) (Finset.sum_congr rfl fun i _ => by rw [hX, hWr]) ?_
    refine sum_padded (by decide) _ _ (fun i => ?_) fun i hi => by rw [hWe0 _ _ hi, mul_zero]
    simp only [hX, hWe, hA, spread]
  have hl : View.ld len r0_11 = len := by funext j; idx_vars j; pointwise; rw [Subsingleton.elim j1 0]
  have hW : View.ld W r0_9 = W := by funext j; idx_vars j; pointwise
  have hbl : View.ld bl r0_10 = bl := by funext j; idx_vars j; pointwise; rw [Subsingleton.elim j0 0]
  have hWHp : View.ld WHp r0_28 = WHp := by funext j; idx_vars j; pointwise
  have hAp : View.ld Ap r0_29 = Ap := by funext j; idx_vars j; pointwise
  have hibp : View.ld ib r0_30 = ib := by funext j; idx_vars j; pointwise; rw [Subsingleton.elim j0 0]
  rw [block, hl, hW, hbl, hWHp, hAp, hibp, head_apply, mixed_apply, predict]
  have hp : ∀ i : Fin 1000, scores (kept len (fun t => (state (encode x Ap cb Wr Wep bep) W bl t).1) 20) WHp
      (ix2 r ⟨i.val, by omega⟩) = score (lstm Wx Wh b
          (fun t => embed (X t) A IB (max (cb (ix2 0 0)) (-cb (ix2 0 0))) We be) n).1 WH i := by
    intro i
    rw [scores_apply, score]
    refine congrArg Ideal.logistic (Finset.sum_congr rfl fun k _ => ?_)
    rw [kept_apply len _ r k n hn hlen 20 le_rfl hn', hWH,
      (state_apply _ W bl Wx Wh b r _ hE hWx hW0 hWh hb n hn').1]
  rw [hp, hib, sum_padded (by decide) _ _ (fun i => congrArg₂ (· * ·) (hp i) (hA i j))
    fun i hi => by rw [hA0 _ _ hi, mul_zero]]

end Cert.Basket

end
-- ==== Proof.KernelValue.lean ====
/-
  The kernel's result array. Each grid point writes the block of 128 rows it names, and a row of a block is the model's
  (`KernelPoint.lean`) of what the arrays it reads hold: the arguments, padded, stacked, and with the item bias folded into
  the encoder's weights by the operations that run before the grid.
-/
module

public import proofs.«01_k».proof.Proof.KernelPoint
public import proofs.«01_k».proof.Proof.Gen.KernelIdeal.Value
public import Idealize.ShloMosaic.Lib.Pipeline.ValueKit
public import Idealize.ShloMosaic.Lib.StableHlo.ReadAt

@[expose] public section

set_option maxRecDepth 16384

noncomputable section

namespace Cert.Basket

open Idealize.ShloMosaic Cert.KernelIdeal Cert.KernelIdeal.Gen

variable (m : (ℓ : Loc nD τ sig) → Buf (Elt Ideal) ℓ) (c : Dev nD)

/-- The result, of the argument arrays. -/
def result : S1024x1000.Idx → EReal :=
  answer (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10))

/-! ## The arrays that the grid reads -/

/-- What the arrays are padded with. -/
theorem pad_value : (FloatOps.sitofp .f32 (0#32 : BitVec 32) : Ideal .f32) = (0 : EReal) := by
  show (((0#32 : BitVec 32).toInt : ℝ) : EReal) = 0
  simp

/-- The padded item graph holds the graph. -/
theorem entry_A (i k : Fin 1000) : (V m c main_v0 : Vec Ideal S1024x1024 .f32) (ix2 ⟨i.val, by omega⟩ ⟨k.val, by omega⟩)
    = (m ((c.tc : Thread nD τ).loc main_arg2) : Vec Ideal S1000x1000 .f32) (ix2 i k) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil,
    List.append_nil, List.cons_append, List.nil_append]
  after_reads_at

/-- Its rows past the thousandth are zero. -/
theorem entry_A0 (i k : Fin 1024) (h : 1000 ≤ i.val) : (V m c main_v0 : Vec Ideal S1024x1024 .f32) (ix2 i k) = (0 : EReal) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil,
    List.append_nil, List.cons_append, List.nil_append]
  after_reads_at
  rw [dif_neg (by omega), pad_value]

/-- The padded item bias holds the bias. -/
theorem entry_ib (k : Fin 1000) : (V m c main_v2 : Vec Ideal S1x1024 .f32) (ix2 0 ⟨k.val, by omega⟩)
    = (m ((c.tc : Thread nD τ).loc main_arg3) : Vec Ideal S1000 .f32) (ix1 k) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil,
    List.append_nil, List.cons_append, List.nil_append]
  after_reads_at

/-- The threshold's one entry. -/
theorem entry_cb : (V m c main_v17 : Vec Ideal S1x1 .f32) (ix2 0 0) = (m ((c.tc : Thread nD τ).loc main_arg4) : Vec Ideal S_ .f32) ix0 := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil,
    List.append_nil, List.cons_append, List.nil_append]
  after_reads_at

/-- The padded encoder weights with the rectified item bias folded in. -/
theorem entry_Wr (i : Fin 1000) (k : Fin 64) : (V m c main_v7 : Vec Ideal S1000x128 .f32) (ix2 i ⟨k.val, by omega⟩)
    = relu ((m ((c.tc : Thread nD τ).loc main_arg3) : Vec Ideal S1000 .f32) (ix1 i)) * ((m ((c.tc : Thread nD τ).loc main_arg5) : Vec Ideal S1000x64 .f32) (ix2 i k) : EReal) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil,
    List.append_nil, List.cons_append, List.nil_append]
  after_reads_at
  rfl

/-- The padded encoder weights hold the weights. -/
theorem entry_We (i : Fin 1000) (k : Fin 64) : (V m c main_v8 : Vec Ideal S1024x128 .f32) (ix2 ⟨i.val, by omega⟩ ⟨k.val, by omega⟩)
    = (m ((c.tc : Thread nD τ).loc main_arg5) : Vec Ideal S1000x64 .f32) (ix2 i k) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil,
    List.append_nil, List.cons_append, List.nil_append]
  after_reads_at

/-- Their rows past the thousandth are zero. -/
theorem entry_We0 (i : Fin 1024) (k : Fin 128) (h : 1000 ≤ i.val) : (V m c main_v8 : Vec Ideal S1024x128 .f32) (ix2 i k) = (0 : EReal) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil,
    List.append_nil, List.cons_append, List.nil_append]
  after_reads_at
  rw [dif_neg (by omega), pad_value]

/-- The padded encoder bias holds the bias. -/
theorem entry_be (k : Fin 64) : (V m c main_v10 : Vec Ideal S1x128 .f32) (ix2 0 ⟨k.val, by omega⟩)
    = (m ((c.tc : Thread nD τ).loc main_arg6) : Vec Ideal S64 .f32) (ix1 k) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil,
    List.append_nil, List.cons_append, List.nil_append]
  after_reads_at

/-- The stacked cell weights begin with the input's. -/
theorem entry_Wx (k : Fin 64) (u : Fin 512) : (V m c main_v12 : Vec Ideal S256x512 .f32) (ix2 ⟨k.val, by omega⟩ u)
    = (m ((c.tc : Thread nD τ).loc main_arg7) : Vec Ideal S64x512 .f32) (ix2 k u) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil,
    List.append_nil, List.cons_append, List.nil_append]
  after_reads_at
  rw [dif_pos (by omega)]

/-- Between the input's weights and the hidden state's they are zero. -/
theorem entry_W0 (k : Fin 256) (u : Fin 512) (h : 64 ≤ k.val) (h' : k.val < 128) :
    (V m c main_v12 : Vec Ideal S256x512 .f32) (ix2 k u) = (0 : EReal) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil,
    List.append_nil, List.cons_append, List.nil_append]
  after_reads_at
  rw [dif_pos h', dif_neg (by omega), pad_value]

/-- The stacked cell weights end with the hidden state's. -/
theorem entry_Wh (k : Fin 128) (u : Fin 512) : (V m c main_v12 : Vec Ideal S256x512 .f32) (ix2 ⟨128 + k.val, by omega⟩ u)
    = (m ((c.tc : Thread nD τ).loc main_arg8) : Vec Ideal S128x512 .f32) (ix2 k u) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil,
    List.append_nil, List.cons_append, List.nil_append]
  after_reads_at

/-- The cell's bias row. -/
theorem entry_b (u : Fin 512) : (V m c main_v18 : Vec Ideal S1x512 .f32) (ix2 0 u) = (m ((c.tc : Thread nD τ).loc main_arg9) : Vec Ideal S512 .f32) (ix1 u) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil,
    List.append_nil, List.cons_append, List.nil_append]
  after_reads_at

/-- The padded head weights hold the weights. -/
theorem entry_WH (k : Fin 128) (i : Fin 1000) : (V m c main_v19 : Vec Ideal S128x1024 .f32) (ix2 k ⟨i.val, by omega⟩)
    = (m ((c.tc : Thread nD τ).loc main_arg10) : Vec Ideal S128x1000 .f32) (ix2 k i) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil,
    List.append_nil, List.cons_append, List.nil_append]
  after_reads_at

/-- A row's length less one, as a number. -/
theorem entry_len (r : Fin 1024) (n : ℕ) (hn : 1 ≤ n) (h : (m ((c.tc : Thread nD τ).loc main_arg1) (ix1 r) : BitVec 32).toInt = n) :
    (V m c main_v16 : Vec Ideal S1024x1 .f32) (ix2 r 0) = (((n - 1 : ℕ) : ℝ) : EReal) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil,
    List.append_nil, List.cons_append, List.nil_append]
  after_reads_at
  show (((m ((c.tc : Thread nD τ).loc main_arg1) (ix1 r) : BitVec 32).toInt : ℝ) : EReal) - 1 = _
  rw [h, ← EReal.coe_one, ← EReal.coe_sub, Nat.cast_sub hn]
  simp

/-! ## The result -/

/-- Grid point `t` reads and writes the rows `128 * t …` of the batch; -/
theorem place : ∀ t : Fin grid0.N, ((cfg0.win 0).index t 0 = t.val ∧ (cfg0.win 0).index t 1 = 0 ∧ (cfg0.win 0).index t 2 = 0)
    ∧ ((cfg0.win 1).index t 0 = t.val ∧ (cfg0.win 1).index t 1 = 0)
    ∧ ((cfg0.win 11).index t 0 = t.val ∧ (cfg0.win 11).index t 1 = 0) := by decide +kernel

/-- the other windows stay where they are. -/
theorem stays : ∀ t : Fin grid0.N, ((cfg0.win 2).index t 0 = 0 ∧ (cfg0.win 2).index t 1 = 0)
    ∧ ((cfg0.win 3).index t 0 = 0 ∧ (cfg0.win 3).index t 1 = 0)
    ∧ ((cfg0.win 4).index t 0 = 0 ∧ (cfg0.win 4).index t 1 = 0)
    ∧ ((cfg0.win 5).index t 0 = 0 ∧ (cfg0.win 5).index t 1 = 0)
    ∧ ((cfg0.win 6).index t 0 = 0 ∧ (cfg0.win 6).index t 1 = 0)
    ∧ ((cfg0.win 7).index t 0 = 0 ∧ (cfg0.win 7).index t 1 = 0)
    ∧ ((cfg0.win 8).index t 0 = 0 ∧ (cfg0.win 8).index t 1 = 0)
    ∧ ((cfg0.win 9).index t 0 = 0 ∧ (cfg0.win 9).index t 1 = 0)
    ∧ ((cfg0.win 10).index t 0 = 0 ∧ (cfg0.win 10).index t 1 = 0) := by decide +kernel

/-- Storing a whole block leaves that block. -/
theorem canon_whole (p : Vec Ideal S128x1000 .f32) : View.canon [⟨r0_31, p⟩] = p := by
  funext y
  idx_vars y
  frame_out

/-- A grid point's block of baskets is its rows of the batch. -/
theorem read_x (t : Fin grid0.N) (r : Fin 128) (s : Fin 20) (i : Fin 1000) (R : Fin 1024) (hR : R.val = 128 * t.val + r.val) :
    (iblk m c 0 t : Vec Ideal S128x20x1000 .f32) (ix3 r s i)
      = (m ((c.tc : Thread nD τ).loc main_arg0) : Vec Ideal S1024x20x1000 .f32) (ix3 R s i) := by
  obtain ⟨⟨a0, a1, a2⟩, -⟩ := place t
  rw [← V_main_arg0 m c]
  blk_ext [iblk, a0, a1, a2]

/-- A grid point's block of lengths is its rows of the lengths. -/
theorem read_len (t : Fin grid0.N) (r : Fin 128) (R : Fin 1024) (hR : R.val = 128 * t.val + r.val) :
    (iblk m c 1 t : Vec Ideal S128x1 .f32) (ix2 r 0) = (V m c main_v16 : Vec Ideal S1024x1 .f32) (ix2 R 0) := by
  obtain ⟨-, ⟨a0, a1⟩, -⟩ := place t
  blk_ext [iblk, a0, a1]

set_option maxHeartbeats 4000000 in
/-- Every point reads the weights and the item graph whole. -/
theorem read_whole (t : Fin grid0.N) : (iblk m c 2 t : Vec Ideal S1024x1024 .f32) = V m c main_v0
    ∧ (iblk m c 3 t : Vec Ideal S1x1024 .f32) = V m c main_v2
    ∧ (iblk m c 4 t : Vec Ideal S1x1 .f32) = V m c main_v17
    ∧ (iblk m c 5 t : Vec Ideal S1000x128 .f32) = V m c main_v7
    ∧ (iblk m c 6 t : Vec Ideal S1024x128 .f32) = V m c main_v8
    ∧ (iblk m c 7 t : Vec Ideal S1x128 .f32) = V m c main_v10
    ∧ (iblk m c 8 t : Vec Ideal S256x512 .f32) = V m c main_v12
    ∧ (iblk m c 9 t : Vec Ideal S1x512 .f32) = V m c main_v18
    ∧ (iblk m c 10 t : Vec Ideal S128x1024 .f32) = V m c main_v19 := by
  obtain ⟨⟨e2, f2⟩, ⟨e3, f3⟩, ⟨e4, f4⟩, ⟨e5, f5⟩, ⟨e6, f6⟩, ⟨e7, f7⟩, ⟨e8, f8⟩, ⟨e9, f9⟩, ⟨e10, f10⟩⟩ := stays t
  refine ⟨?_, ?_, ?_, ?_, ?_, ?_, ?_, ?_, ?_⟩ <;> (funext y; idx_vars y; blk_ext [iblk, e2, f2, e3, f3, e4, f4, e5, f5, e6, f6, e7, f7, e8, f8, e9, f9, e10, f10])

/-- From admissible arguments the array the kernel leaves is the model's. -/
theorem arr_eq (h : Admissible (m ((c.tc : Thread nD τ).loc main_arg0)) (m ((c.tc : Thread nD τ).loc main_arg1))) :
    (dats m 0 c).arrAt 11 cfg0.N = result m c := by
  refine (dats m 0 c).arrAt_eq_of_covers 11 (result m c) (by decide +kernel) fun t hf y => ?_
  blk_simp
  rw [after0_11, out_eq, canon_whole]
  have ht : t.val < 8 := t.isLt
  idx_vars y
  obtain ⟨-, -, a0, a1⟩ := place t
  obtain ⟨R, hR⟩ : ∃ R : Fin 1024, R.val = 128 * t.val + y0.val := ⟨⟨128 * t.val + y0.val, by omega⟩, rfl⟩
  have he : (win0_11.blk t).view.emb (ix2 y0 y1) = (ix2 R y1 : S1024x1000.Idx) := by
    blk_ext [a0, a1]
  rw [he]
  obtain ⟨b2, b3, b4, b5, b6, b7, b8, b9, b10⟩ := read_whole m c t
  rw [b2, b3, b4, b5, b6, b7, b8, b9, b10]
  obtain ⟨l1, l2⟩ := h.2 (ix1 R)
  obtain ⟨n, hn⟩ : ∃ n : ℕ, (m ((c.tc : Thread nD τ).loc main_arg1) (ix1 R) : BitVec 32).toInt = n :=
    ⟨_, (Int.toNat_of_nonneg (by omega)).symm⟩
  rw [hn] at l1 l2
  refine (block_apply _ _ _ _ _ _ _ _ _ _ _
    (fun t i => (m ((c.tc : Thread nD τ).loc main_arg0) : Vec Ideal S1024x20x1000 .f32) (ix3 R ⟨t % 20, Nat.mod_lt _ (by decide)⟩ i)) n
    _ _ _ _ _ _ _ _ y0 y1 (fun s i => ?_) (fun s _ i => h.1 _) (by omega) (by omega) ?_ (entry_A m c) (entry_A0 m c) (entry_ib m c)
    (entry_Wr m c) (entry_We m c) (entry_We0 m c) (entry_be m c) (entry_Wx m c) (entry_W0 m c) (entry_Wh m c) (entry_b m c)
    (entry_WH m c)).trans ?_
  · rw [read_x m c t y0 s i R hR]
    exact congrArg (fun q => (m ((c.tc : Thread nD τ).loc main_arg0) : Vec Ideal S1024x20x1000 .f32) (ix3 R q i)) (Fin.ext (Nat.mod_eq_of_lt s.isLt).symm)
  · rw [read_len m c t y0 R hR]
    exact entry_len m c R n (by omega) hn
  · obtain rfl : n = (m ((c.tc : Thread nD τ).loc main_arg1) (ix1 R) : BitVec 32).toInt.toNat := by omega
    rw [entry_cb]
    rfl

end Cert.Basket

end
-- ==== Proof.RefSteps.lean ====
/-
  The reference's recurrent loop: one trip and its twenty iterations, read at an index over the extended reals. They are
  the model's cell (`Model.lean`), and the stacked hidden states hold the state after each step.
-/
module

public import proofs.«01_k».proof.Proof.Gen.ReferenceIdeal.Run
public import proofs.«01_k».proof.Proof.Model
public import Idealize.ShloMosaic.Lib.Pointwise

@[expose] public section

set_option maxRecDepth 16384

noncomputable section

namespace Cert.Basket.Ref

open Idealize.ShloMosaic Cert.ReferenceIdeal Cert.ReferenceIdeal.Gen

/-- A small natural number as a 32-bit word reads back, signed. -/
theorem toInt_small : ∀ n : Fin 21, (BitVec.ofNat 32 n.val).toInt = n.val := by decide

/-- The places that a trip's slice of the encodings, and its update of the stack, start at: step `n`, whole otherwise. -/
def start (k : IVec S_ 32) : Fin 3 → Int :=
  fun a => (((![k, constantI S_ 32 0#32, constantI S_ 32 0#32] : Fin 3 → _)) a (Shape.Idx.first h_S_)).toInt

/-- A step's number in range is left as it is by the clamp of the slice's start. -/
theorem clamped (e : ℕ) (ht : (⟨3, ![1, 1024, e]⟩ : Shape).rank = (⟨3, ![20, 1024, e]⟩ : Shape).rank) (n : Fin 20) :
    Host.clampedStart ⟨3, ![20, 1024, e]⟩ ⟨3, ![1, 1024, e]⟩ ht (start fun _ => BitVec.ofNat 32 n.val) 0 = n.val
    ∧ Host.clampedStart ⟨3, ![20, 1024, e]⟩ ⟨3, ![1, 1024, e]⟩ ht (start fun _ => BitVec.ofNat 32 n.val) 1 = 0
    ∧ Host.clampedStart ⟨3, ![20, 1024, e]⟩ ⟨3, ![1, 1024, e]⟩ ht (start fun _ => BitVec.ofNat 32 n.val) 2 = 0 :=
  ⟨Host.clampedStart_of_le _ _ _ n.val (toInt_small ⟨n.val, by omega⟩) (by show n.val + 1 ≤ 20; omega),
    Host.clampedStart_of_le _ _ _ 0 rfl (by show 0 + 1024 ≤ 1024; omega),
    Host.clampedStart_of_le _ _ _ 0 rfl (by show 0 + e ≤ e; omega)⟩

/-- The gates of one trip: the encodings' step `k`, the hidden state, the weights. -/
def gates (xs : FVec Ideal S20x1024x64 .f32) (k : IVec S_ 32) (Wx : FVec Ideal S64x512 .f32) (Wh : FVec Ideal S128x512 .f32)
    (b : FVec Ideal S512 .f32) (h : FVec Ideal S1024x128 .f32) : FVec Ideal S1024x512 .f32 :=
  addf (addf (Host.dotGeneral dot_S1024x64_S64x512_S1024x512_1_0_0_1_n_n none
      (shapeCast S1024x64 (Host.dynamicSlice S1x1024x64 xs
        (start k)
        sliceFits_S20x1024x64_S1x1024x64) shapeCasts_S1x1024x64_S1024x64) Wx)
      (Host.dotGeneral dot_S1024x128_S128x512_S1024x512_1_0_0_1_n_n none h Wh))
    (broadcastInDim S1024x512 ![0, 1] bcast_S1x512_S1024x512_0_1 (broadcastInDim S1x512 ![1] bcast_S512_S1x512_1 b))

/-- The gates at an index: the encoding's part, the hidden state's part and the bias. -/
theorem gates_apply (xs : FVec Ideal S20x1024x64 .f32) (k : IVec S_ 32) (Wx : FVec Ideal S64x512 .f32)
    (Wh : FVec Ideal S128x512 .f32) (b : FVec Ideal S512 .f32) (h : FVec Ideal S1024x128 .f32) (n : Fin 20)
    (hk : k = fun _ => BitVec.ofNat 32 n.val) (r : Fin 1024) (u : Fin 512) :
    gates xs k Wx Wh b h (ix2 r u)
      = gate (fun k u => Wx (ix2 k u)) (fun k u => Wh (ix2 k u)) (fun u => b (ix1 u)) (fun k => xs (ix3 n r k))
          (fun k => h (ix2 r k)) u := by
  subst hk
  pointwise [gates, gate]
  obtain ⟨c0, c1, c2⟩ := clamped 64 rfl n
  simp only [c0, c1, c2, Nat.zero_add, Fin.eta]

/-- The logistic function as the reference spells it. -/
def sigmoid (x : FVec Ideal S1024x128 .f32) : FVec Ideal S1024x128 .f32 :=
  Host.divf (broadcastInDim S1024x128 ![] bcast_S_S1024x128 (constant S_ .f32 0x3F800000#32))
    (addf (broadcastInDim S1024x128 ![] bcast_S_S1024x128 (constant S_ .f32 0x3F800000#32)) (Host.exp (Host.negf x)))

/-- The cell state after one trip. -/
def cellC (z : FVec Ideal S1024x512 .f32) (c : FVec Ideal S1024x128 .f32) : FVec Ideal S1024x128 .f32 :=
  addf (mulf (sigmoid (extractStridedSlice S1024x128 ![0, 128] z slices_S1024x512_S1024x128_0_128)) c)
    (mulf (sigmoid (extractStridedSlice S1024x128 ![0, 0] z slices_S1024x512_S1024x128_0_0))
      (Host.tanh (extractStridedSlice S1024x128 ![0, 256] z slices_S1024x512_S1024x128_0_256)))

/-- The hidden state after one trip. -/
def cellH (z : FVec Ideal S1024x512 .f32) (c : FVec Ideal S1024x128 .f32) : FVec Ideal S1024x128 .f32 :=
  mulf (sigmoid (extractStridedSlice S1024x128 ![0, 384] z slices_S1024x512_S1024x128_0_384)) (Host.tanh (cellC z c))

/-- The cell state after a step is the model's, row by row. -/
theorem cellC_apply (z : FVec Ideal S1024x512 .f32) (c : FVec Ideal S1024x128 .f32) (r : Fin 1024) (u : Fin 128) :
    cellC z c (ix2 r u) = nextC (fun v => z (ix2 r v)) (fun v => c (ix2 r v)) u := by
  pointwise [cellC, sigmoid, nextC, Ideal.logistic]

/-- The hidden state after a step is the model's, row by row. -/
theorem cellH_apply (z : FVec Ideal S1024x512 .f32) (c : FVec Ideal S1024x128 .f32) (r : Fin 1024) (u : Fin 128) :
    cellH z c (ix2 r u) = nextH (fun v => z (ix2 r v)) (fun v => c (ix2 r v)) u := by
  unfold cellH nextH
  rw [← cellC_apply]
  pointwise [sigmoid, Ideal.logistic]

/-- The stack of hidden states with step `k` overwritten. -/
def stack (hs : FVec Ideal S20x1024x128 .f32) (h : FVec Ideal S1024x128 .f32) (k : IVec S_ 32) : FVec Ideal S20x1024x128 .f32 :=
  Host.dynamicUpdateSlice hs (broadcastInDim S1x1024x128 ![1, 2] bcast_S1024x128_S1x1024x128_1_2 h)
    (start k)
    updateFits_S20x1024x128_S1x1024x128

/-- The stack after step `n` holds the new hidden state at `n` and what it held elsewhere. -/
theorem stack_apply (hs : FVec Ideal S20x1024x128 .f32) (h : FVec Ideal S1024x128 .f32) (k : IVec S_ 32) (n : Fin 20)
    (hk : k = fun _ => BitVec.ofNat 32 n.val) (t : Fin 20) (r : Fin 1024) (u : Fin 128) :
    stack hs h k (ix3 t r u) = if t = n then h (ix2 r u) else hs (ix3 t r u) := by
  subst hk
  pointwise [stack]
  obtain ⟨c0, c1, c2⟩ := clamped 128 rfl n
  simp only [c0, c1, c2, Nat.zero_le, Nat.sub_zero, Fin.eta, and_true, and_self, Fin.ext_iff, dite_eq_ite]
  by_cases h : t.val = n.val
  · rw [if_pos h, if_pos (by omega)]
  · rw [if_neg h, if_neg (by omega)]

end Cert.Basket.Ref

end
-- ==== Proof.RefValue.lean ====
/-
  The reference's result array: the arrays its loop starts on, the twenty trips, and the head of the hidden state that the
  sequence's length picks, read at an index over the extended reals.
-/
module

public import proofs.«01_k».proof.Proof.RefSteps
public import Idealize.ShloMosaic.Lib.StableHlo.ReadAt
public import Idealize.ShloMosaic.Lib.Routing.OpsPair

@[expose] public section

set_option maxRecDepth 16384

noncomputable section

namespace Cert.Basket.Ref

open Idealize.ShloMosaic Cert.ReferenceIdeal Cert.ReferenceIdeal.Gen Cert.ReferenceIdeal.Value StableHlo

variable (m : (ℓ : Loc nD τ sig) → Buf (Elt Ideal) ℓ) (c : Dev nD)

/-- The encodings of row `r`, of the argument arrays. -/
def enc (r : Fin 1024) : ℕ → Fin 64 → EReal :=
  encodings (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) r

/-- Row `r`'s states before step `t`, of the argument arrays. -/
def states (r : Fin 1024) (t : ℕ) : (Fin 128 → EReal) × (Fin 128 → EReal) :=
  run (m ((c.tc : Thread nD τ).loc main_arg7)) (m ((c.tc : Thread nD τ).loc main_arg8)) (m ((c.tc : Thread nD τ).loc main_arg9))
    (enc m c r) t

/-! ## What the loop starts on -/

/-- The loop runs over the encodings of the baskets, step by step. -/
theorem start_xs (t : Fin 20) (r : Fin 1024) (k : Fin 64) :
    (entryContents preI m c (Proc.devRef .tc main_v21_0) : Vec Ideal S20x1024x64 .f32) (ix3 t r k) = enc m c r t.val k := by
  simp only [entryContents, preI, afterL_cons, afterL_nil, hostOps0, hostOps0_1, hostOps0_2, hostOps0_3, hostOps0_4, hostOps0_5,
    hostOps0_6]
  after_reads_at
  simp only [id_eq]
  clean_types
  pointwise [enc, encodings, embed, spread, relu]
  have e1 : (r.val * 20 + t.val) / 20 = r.val := by omega
  have e2 : (r.val * 20 + t.val) % 20 = t.val := by omega
  have e3 : t.val % 20 = t.val := by omega
  simp only [e1, e2, e3, Fin.eta]
  rfl

/-- It reads the input's weights, -/
theorem start_Wx : entryContents preI m c (Proc.devRef .tc main_v21_1) = m ((c.tc : Thread nD τ).loc main_arg7) := by
  simp only [entryContents, preI, afterL_cons, afterL_nil, hostOps0, hostOps0_1, hostOps0_2, hostOps0_3, hostOps0_4, hostOps0_5,
    hostOps0_6]
  after_reads_at
  rfl

/-- the hidden state's weights -/
theorem start_Wh : entryContents preI m c (Proc.devRef .tc main_v21_2) = m ((c.tc : Thread nD τ).loc main_arg8) := by
  simp only [entryContents, preI, afterL_cons, afterL_nil, hostOps0, hostOps0_1, hostOps0_2, hostOps0_3, hostOps0_4, hostOps0_5,
    hostOps0_6]
  after_reads_at
  rfl

/-- and the cell's bias. -/
theorem start_b : entryContents preI m c (Proc.devRef .tc main_v21_3) = m ((c.tc : Thread nD τ).loc main_arg9) := by
  simp only [entryContents, preI, afterL_cons, afterL_nil, hostOps0, hostOps0_1, hostOps0_2, hostOps0_3, hostOps0_4, hostOps0_5,
    hostOps0_6]
  after_reads_at
  rfl

/-- The step count starts at zero, -/
theorem start_count : entryContents preI m c (Proc.devRef .tc main_v21_4) = fun _ => 0#32 := by
  simp only [entryContents, preI, afterL_cons, afterL_nil, hostOps0, hostOps0_1, hostOps0_2, hostOps0_3, hostOps0_4, hostOps0_5,
    hostOps0_6]
  after_reads_at
  rfl

/-- so does the hidden state, -/
theorem start_h (r : Fin 1024) (u : Fin 128) :
    (entryContents preI m c (Proc.devRef .tc main_v21_5) : Vec Ideal S1024x128 .f32) (ix2 r u) = (0 : EReal) := by
  simp only [entryContents, preI, afterL_cons, afterL_nil, hostOps0, hostOps0_1, hostOps0_2, hostOps0_3, hostOps0_4, hostOps0_5,
    hostOps0_6]
  after_reads_at
  simp only [id_eq]
  clean_types
  pointwise

/-- and so does the cell state. -/
theorem start_c (r : Fin 1024) (u : Fin 128) :
    (entryContents preI m c (Proc.devRef .tc main_v21_6) : Vec Ideal S1024x128 .f32) (ix2 r u) = (0 : EReal) := by
  simp only [entryContents, preI, afterL_cons, afterL_nil, hostOps0, hostOps0_1, hostOps0_2, hostOps0_3, hostOps0_4, hostOps0_5,
    hostOps0_6]
  after_reads_at
  simp only [id_eq]
  clean_types
  pointwise

/-! ## The trips -/

/-- Before trip `t` the loop holds what it started on, the count, the states before step `t`, and the hidden states after
    each earlier step. -/
theorem trips (t : ℕ) (ht : t ≤ 20) :
    (STEP^[t] (entryContents preI m c)) (Proc.devRef .tc main_v21_0) = entryContents preI m c (Proc.devRef .tc main_v21_0)
    ∧ (STEP^[t] (entryContents preI m c)) (Proc.devRef .tc main_v21_1) = m ((c.tc : Thread nD τ).loc main_arg7)
    ∧ (STEP^[t] (entryContents preI m c)) (Proc.devRef .tc main_v21_2) = m ((c.tc : Thread nD τ).loc main_arg8)
    ∧ (STEP^[t] (entryContents preI m c)) (Proc.devRef .tc main_v21_3) = m ((c.tc : Thread nD τ).loc main_arg9)
    ∧ (STEP^[t] (entryContents preI m c)) (Proc.devRef .tc main_v21_4) = (fun _ => BitVec.ofNat 32 t)
    ∧ (∀ r u, ((STEP^[t] (entryContents preI m c)) (Proc.devRef .tc main_v21_5) : Vec Ideal S1024x128 .f32) (ix2 r u)
        = (states m c r t).1 u)
    ∧ (∀ r u, ((STEP^[t] (entryContents preI m c)) (Proc.devRef .tc main_v21_6) : Vec Ideal S1024x128 .f32) (ix2 r u)
        = (states m c r t).2 u)
    ∧ (∀ (s : Fin 20) r u, s.val < t →
        ((STEP^[t] (entryContents preI m c)) (Proc.devRef .tc main_v21_7) : Vec Ideal S20x1024x128 .f32) (ix3 s r u)
          = (states m c r (s.val + 1)).1 u) := by
  induction t with
  | zero => exact ⟨rfl, start_Wx m c, start_Wh m c, start_b m c, start_count m c, start_h m c, start_c m c, fun s r u h => absurd h (by omega)⟩
  | succ t ih =>
    obtain ⟨i0, i1, i2, i3, i4, i5, i6, i7⟩ := ih (by omega)
    rw [Function.iterate_succ_apply']
    generalize hW : STEP^[t] (entryContents preI m c) = W at *
    have hz : res_main_while0b_v74 W = gates (W (Proc.devRef .tc main_v21_0)) (W (Proc.devRef .tc main_v21_4))
        (W (Proc.devRef .tc main_v21_1)) (W (Proc.devRef .tc main_v21_2)) (W (Proc.devRef .tc main_v21_3))
        (W (Proc.devRef .tc main_v21_5)) := rfl
    have hc : res_main_while0b_v100 W = cellC (res_main_while0b_v74 W) (W (Proc.devRef .tc main_v21_6)) := rfl
    have hh : res_main_while0b_v102 W = cellH (res_main_while0b_v74 W) (W (Proc.devRef .tc main_v21_6)) := rfl
    have gz : ∀ r, (fun v => (res_main_while0b_v74 W : Vec Ideal S1024x512 .f32) (ix2 r v))
        = gate (fun k u => (m ((c.tc : Thread nD τ).loc main_arg7) : Vec Ideal S64x512 .f32) (ix2 k u))
            (fun k u => (m ((c.tc : Thread nD τ).loc main_arg8) : Vec Ideal S128x512 .f32) (ix2 k u))
            (fun u => (m ((c.tc : Thread nD τ).loc main_arg9) : Vec Ideal S512 .f32) (ix1 u)) (enc m c r t) (states m c r t).1 := by
      intro r
      funext v
      rw [hz, gates_apply _ _ _ _ _ _ ⟨t, by omega⟩ i4, i0, i1, i2, i3]
      have e1 : (fun k => (entryContents preI m c (Proc.devRef .tc main_v21_0) : Vec Ideal S20x1024x64 .f32) (ix3 ⟨t, by omega⟩ r k))
          = enc m c r t := funext fun k => start_xs m c ⟨t, by omega⟩ r k
      have e2 : (fun k => (W (Proc.devRef .tc main_v21_5) : Vec Ideal S1024x128 .f32) (ix2 r k)) = (states m c r t).1 :=
        funext fun k => i5 r k
      rw [e1, e2]
    have e3 : ∀ r, (fun k => (W (Proc.devRef .tc main_v21_6) : Vec Ideal S1024x128 .f32) (ix2 r k)) = (states m c r t).2 :=
      fun r => funext fun k => i6 r k
    have sh : ∀ r u, (res_main_while0b_v102 W : Vec Ideal S1024x128 .f32) (ix2 r u) = (states m c r (t + 1)).1 u := by
      intro r u
      rw [hh, cellH_apply, gz, e3]; rfl
    have sc : ∀ r u, (res_main_while0b_v100 W : Vec Ideal S1024x128 .f32) (ix2 r u) = (states m c r (t + 1)).2 u := by
      intro r u
      rw [hc, cellC_apply, gz, e3]; rfl
    have hs : step_main_v21_7 W = stack (W (Proc.devRef .tc main_v21_7)) (res_main_while0b_v102 W) (W (Proc.devRef .tc main_v21_4)) := rfl
    refine ⟨(STEP_main_v21_0 W).trans i0, (STEP_main_v21_1 W).trans i1, (STEP_main_v21_2 W).trans i2, (STEP_main_v21_3 W).trans i3,
      (STEP_main_v21_4 W).trans ?_, fun r u => ?_, fun r u => ?_, fun s r u hst => ?_⟩
    · rw [step_main_v21_4, i4]
      funext y
      exact (BitVec.ofNat_add t 1).symm
    · rw [STEP_main_v21_5]; exact sh r u
    · rw [STEP_main_v21_6]; exact sc r u
    · rw [STEP_main_v21_7, hs, stack_apply _ _ _ ⟨t, by omega⟩ i4]
      by_cases h : s.val = t
      · rw [if_pos (Fin.ext h), sh, h]
      · rw [if_neg fun e => h (congrArg Fin.val e), i7 s r u (by omega)]

/-! ## The head -/

/-- The logistic function of an array, as the reference spells it. -/
def logit (x : FVec Ideal S1024x1000 .f32) : FVec Ideal S1024x1000 .f32 :=
  Host.divf (broadcastInDim S1024x1000 ![] bcast_S_S1024x1000 (constant S_ .f32 0x3F800000#32))
    (addf (broadcastInDim S1024x1000 ![] bcast_S_S1024x1000 (constant S_ .f32 0x3F800000#32)) (Host.exp (Host.negf x)))

/-- It is the logistic function at each index. -/
theorem logit_apply (x : FVec Ideal S1024x1000 .f32) (r : Fin 1024) (j : Fin 1000) :
    logit x (ix2 r j) = Ideal.logistic (x (ix2 r j)) := by
  pointwise [logit, Ideal.logistic]

/-- Where each row's last hidden state stands in the stack: its own row, and its length less one. -/
def places (len : IVec S1024 32) : IVec S1024x2 32 :=
  concatenate S1024x2 1
    [⟨S1024x1, (broadcastInDim S1024x1 ![0] bcast_S1024_S1024x1_0 (select (cmpi .slt (iotaInDim S1024 32 0)
        (broadcastInDim S1024 ![] bcast_S_S1024 (constantI S_ 32 0#32))) (addi (iotaInDim S1024 32 0)
        (broadcastInDim S1024 ![] bcast_S_S1024 (constantI S_ 32 1024#32))) (iotaInDim S1024 32 0)))⟩,
      ⟨S1024x1, (broadcastInDim S1024x1 ![0] bcast_S1024_S1024x1_0 (select (cmpi .slt
        (subi len (broadcastInDim S1024 ![] bcast_S_S1024 (constantI S_ 32 1#32)))
        (broadcastInDim S1024 ![] bcast_S_S1024 (constantI S_ 32 0#32)))
        (addi (subi len (broadcastInDim S1024 ![] bcast_S_S1024 (constantI S_ 32 1#32)))
          (broadcastInDim S1024 ![] bcast_S_S1024 (constantI S_ 32 20#32)))
        (subi len (broadcastInDim S1024 ![] bcast_S_S1024 (constantI S_ 32 1#32)))))⟩]
    concatenates_S1024x1_S1024x1_S1024x2_d1

/-- The first of a row's two places is the row itself; -/
theorem places_row (len : IVec S1024 32) (r : Fin 1024) : (places len (ix2 r 0)).toInt = r.val := by
  pointwise [places]
  have hr : (BitVec.ofNat 32 r.val).toNat = r.val := by rw [BitVec.toNat_ofNat]; omega
  rw [Routing.wrap_of_lt _ _ (by omega), BitVec.toInt_eq_toNat_of_lt (by omega), hr]

/-- the second is its length less one. -/
theorem places_step (len : IVec S1024 32) (r : Fin 1024) (n : ℕ) (h1 : 1 ≤ n) (h2 : n ≤ 20) (h : (len (ix1 r)).toInt = n) :
    (places len (ix2 r 1)).toInt = (n - 1 : ℕ) := by
  have hl := (len (ix1 r)).isLt
  have hn : (len (ix1 r)).toNat = n := by
    rw [BitVec.toInt_eq_toNat_cond] at h
    split at h <;> omega
  have hs : (len (ix1 r) - 1#32).toNat = n - 1 := by
    rw [BitVec.toNat_sub, hn]
    show (2 ^ 32 - 1 + n) % 2 ^ 32 = n - 1
    omega
  pointwise [places]
  rw [Routing.wrap_of_lt _ _ (by show (len (ix1 r) - 1#32).toNat < _; omega)]
  show (len (ix1 r) - 1#32).toInt = _
  rw [BitVec.toInt_eq_toNat_of_lt (by omega), hs]

/-- The rows of the stack at given places. -/
theorem gather_apply (x : FVec Ideal S1024x20x128 .f32) (p : IVec S1024x2 32) (r : Fin 1024) (u : Fin 128) (a : Fin 1024) (b : Fin 20)
    (ha : (p (ix2 r 0)).toInt = a.val) (hb : (p (ix2 r 1)).toInt = b.val) :
    Host.gather gather_S1024x20x128_S1024x2_S1024x128_1_01_n_n_01_1_11128 x p (ix2 r u) = x (ix3 a b u) := by
  unfold Host.gather
  refine congrArg x (funext fun k => Fin.ext ?_)
  match k with
  | 0 =>
    have e : gather_S1024x20x128_S1024x2_S1024x128_1_01_n_n_01_1_11128.siIdx (ix2 r u) ⟨0, by decide⟩ = ix2 r 0 := by
      funext k
      match k with
      | 0 => rfl
      | 1 => rfl
    show min (p (gather_S1024x20x128_S1024x2_S1024x128_1_01_n_n_01_1_11128.siIdx (ix2 r u) ⟨0, by decide⟩)).toInt.toNat (1024 - 1)
      + 0 + 0 = a.val
    rw [e, ha]
    omega
  | 1 =>
    have e : gather_S1024x20x128_S1024x2_S1024x128_1_01_n_n_01_1_11128.siIdx (ix2 r u) ⟨1, by decide⟩ = ix2 r 1 := by
      funext k
      match k with
      | 0 => rfl
      | 1 => rfl
    show min (p (gather_S1024x20x128_S1024x2_S1024x128_1_01_n_n_01_1_11128.siIdx (ix2 r u) ⟨1, by decide⟩)).toInt.toNat (20 - 1)
      + 0 + 0 = b.val
    rw [e, hb]
    omega
  | 2 =>
    show 0 + 0 + u.val = u.val
    omega

/-- The scores mixed, half and half, with one propagation of themselves over the item graph. -/
def mix (p : FVec Ideal S1024x1000 .f32) (IB : FVec Ideal S1000 .f32) (A : FVec Ideal S1000x1000 .f32) : FVec Ideal S1024x1000 .f32 :=
  logit (addf (mulf (broadcastInDim S1024x1000 ![] bcast_S_S1024x1000 (constant S_ .f32 0x3F000000#32)) p)
    (mulf (broadcastInDim S1024x1000 ![] bcast_S_S1024x1000 (constant S_ .f32 0x3F000000#32))
      (addf (mulf p (broadcastInDim S1024x1000 ![0, 1] bcast_S1x1000_S1024x1000_0_1 (broadcastInDim S1x1000 ![1] bcast_S1000_S1x1000_1
          (maximumf IB (broadcastInDim S1000 ![] bcast_S_S1000 (constant S_ .f32 0x00000000#32))))))
        (maximumf (subf (Host.dotGeneral dot_S1024x1000_S1000x1000_S1024x1000_1_0_0_1_n_n none p A)
            (broadcastInDim S1024x1000 ![] bcast_S_S1024x1000 (Host.absf (constant S_ .f32 0x00000000#32))))
          (broadcastInDim S1024x1000 ![] bcast_S_S1024x1000 (constant S_ .f32 0x00000000#32))))))

/-- The threshold of the head's propagation, the absolute value of zero, is zero. -/
theorem abs_zero_ideal : (FloatOps.absf (0 : EReal) : Ideal .f32) = (0 : EReal) := by
  show max (0 : EReal) (-0) = 0
  rw [neg_zero, max_self]

/-- The mixed scores' logistic function at an index is the model's prediction. -/
theorem mix_apply (p : FVec Ideal S1024x1000 .f32) (IB : FVec Ideal S1000 .f32) (A : FVec Ideal S1000x1000 .f32) (r : Fin 1024)
    (j : Fin 1000) :
    mix p IB A (ix2 r j) = predict (fun i => p (ix2 r i)) (fun i k => A (ix2 i k)) (fun i => IB (ix1 i)) j := by
  unfold mix predict
  rw [logit_apply]
  pointwise [relu]
  rw [abs_zero_ideal]
  simp only [sub_zero]

/-- The predictions, of the stacked hidden states. -/
def head (hs : FVec Ideal S20x1024x128 .f32) (len : IVec S1024 32) (WH : FVec Ideal S128x1000 .f32) (IB : FVec Ideal S1000 .f32)
    (A : FVec Ideal S1000x1000 .f32) : FVec Ideal S1024x1000 .f32 :=
  mix (logit (Host.dotGeneral dot_S1024x128_S128x1000_S1024x1000_1_0_0_1_n_n none
    (Host.gather gather_S1024x20x128_S1024x2_S1024x128_1_01_n_n_01_1_11128
      (transpose S1024x20x128 [1, 0, 2] hs transposes_S20x1024x128_S1024x20x128_1_0_2) (places len)) WH)) IB A

/-- The predictions at an index, for a row of length `n`: those of the hidden state stacked at `n - 1`. -/
theorem head_apply (hs : FVec Ideal S20x1024x128 .f32) (len : IVec S1024 32) (WH : FVec Ideal S128x1000 .f32)
    (IB : FVec Ideal S1000 .f32) (A : FVec Ideal S1000x1000 .f32) (r : Fin 1024) (j : Fin 1000) (n : ℕ) (h1 : 1 ≤ n) (h2 : n ≤ 20)
    (h : (len (ix1 r)).toInt = n) :
    head hs len WH IB A (ix2 r j)
      = predict (score (fun u => hs (ix3 ⟨n - 1, by omega⟩ r u)) (fun k i => WH (ix2 k i))) (fun i k => A (ix2 i k))
          (fun i => IB (ix1 i)) j := by
  unfold head
  rw [mix_apply]
  refine congrArg (fun p => predict p (fun i k => A (ix2 i k)) (fun i => IB (ix1 i)) j) (funext fun i => ?_)
  rw [logit_apply, score]
  refine congrArg Ideal.logistic ?_
  have g : ∀ u, Host.gather gather_S1024x20x128_S1024x2_S1024x128_1_01_n_n_01_1_11128
      (transpose S1024x20x128 [1, 0, 2] hs transposes_S20x1024x128_S1024x20x128_1_0_2) (places len) (ix2 r u)
      = hs (ix3 ⟨n - 1, by omega⟩ r u) := by
    intro u
    rw [gather_apply _ _ r u r ⟨n - 1, by omega⟩ (places_row len r) (places_step len r n h1 h2 h)]
    pointwise
  generalize Host.gather gather_S1024x20x128_S1024x2_S1024x128_1_01_n_n_01_1_11128
      (transpose S1024x20x128 [1, 0, 2] hs transposes_S20x1024x128_S1024x20x128_1_0_2) (places len) = q at g
  pointwise
  exact Finset.sum_congr rfl fun u _ => by rw [g u]

/-! ## The result -/

/-- The result, of the argument arrays. -/
def result : S1024x1000.Idx → EReal :=
  answer (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10))

/-- From admissible arguments the reference's result array is the model's. -/
theorem out_eq (h : Admissible (m ((c.tc : Thread nD τ).loc main_arg0)) (m ((c.tc : Thread nD τ).loc main_arg1))) :
    out_main_v67 (STEP^[20] (entryContents preI m c)) = result m c := by
  have hd : ∀ W : Valuation τ sig (Elt Ideal), out_main_v67 W = head (W (Proc.devRef .tc main_v21_7)) (W (Proc.devRef .tc main_arg1))
    (W (Proc.devRef .tc main_arg10)) (W (Proc.devRef .tc main_arg3)) (W (Proc.devRef .tc main_arg2)) := fun _ => rfl
  obtain ⟨-, -, -, -, -, -, -, hs⟩ := trips m c 20 le_rfl
  rw [hd, iter_main_arg1, iter_main_arg10, iter_main_arg3, iter_main_arg2]
  funext y
  idx_vars y
  obtain ⟨l1, l2⟩ := h.2 (ix1 y0)
  obtain ⟨n, hn⟩ : ∃ n : ℕ, (m ((c.tc : Thread nD τ).loc main_arg1) (ix1 y0) : BitVec 32).toInt = n :=
    ⟨_, (Int.toNat_of_nonneg (by omega)).symm⟩
  rw [hn] at l1 l2
  rw [head_apply _ _ _ _ _ y0 y1 n (by omega) (by omega) hn]
  have e : (fun u => ((STEP^[20] (entryContents preI m c)) (Proc.devRef .tc main_v21_7) : Vec Ideal S20x1024x128 .f32)
      (ix3 ⟨n - 1, by omega⟩ y0 u)) = (states m c y0 n).1 := by
    funext u
    rw [hs ⟨n - 1, by omega⟩ y0 u (by show n - 1 < 20; omega)]
    exact congrArg (fun k => (states m c y0 k).1 u) (by show n - 1 + 1 = n; omega)
  rw [e]
  obtain rfl : n = (m ((c.tc : Thread nD τ).loc main_arg1) (ix1 y0) : BitVec 32).toInt.toNat := by omega
  rfl

end Cert.Basket.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_multi_hot_and_in_range
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem

/-- The kernel, at the machine's formats: it ends, and leaves its arguments and the semaphores as they were. -/
theorem kernel_frame : Cert.quiescent_Kernel (hKernel := Cert.Kernel.Gen.facts) :=
  fun m ρ _ => Cert.Kernel.Gen.frame m ρ

/-- The same of the kernel over the extended reals. -/
theorem kernelIdeal_frame : Cert.quiescent_KernelIdeal (hKernelIdeal := Cert.KernelIdeal.Gen.facts) :=
  fun m ρ _ => Cert.KernelIdeal.Gen.frame m ρ

/-- The same of the reference over the extended reals: its program has no semaphores. -/
theorem reference_frame : Cert.quiescent_ReferenceIdeal (hReferenceIdeal := Cert.ReferenceIdeal.Gen.facts) :=
  fun m ρ _ => (θ_run _ _ _).mono
    (fun r h => ⟨fun c => (h c).2, sem_eq_zero_of_no_sems (by decide) r.2⟩) (Cert.ReferenceIdeal.Value.run m ρ)

/-- A truth value whose bit is set is true. -/
theorem ofBool_eq {b : Bool} (h : BitVec.ofBool b = 1#1) : b = true := by
  cases b
  · exact absurd h (by decide)
  · rfl

/-- The stated precondition says that the inputs are nonnegative and the lengths lie between 1 and 20. -/
theorem admissible_of_pre (m : (ℓ : Loc Cert.KernelIdeal.nD Cert.KernelIdeal.τ Cert.KernelIdeal.sig) → Buf (Elt Ideal) ℓ)
    (h : Cert.Pre_KernelIdeal_multi_hot_and_in_range (hPre_multi_hot_and_in_range := Cert.Pre_multi_hot_and_in_range.Gen.facts) m)
    (c : Dev Cert.KernelIdeal.nD) :
    Cert.Basket.Admissible
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) := by
  obtain ⟨h0, h1, h2⟩ := h c
  refine ⟨fun j => ?_, fun j => ⟨?_, ?_⟩⟩
  · have e : BitVec.ofBool (decide (Ideal.ofBits .f32 0x00000000#32
        ≤ (m ((c.tc : Thread Cert.KernelIdeal.nD Cert.KernelIdeal.τ).loc Cert.KernelIdeal.main_arg0) j : EReal))) = 1#1 := congrFun h0 j
    rw [Ideal.ofBits_zero_f32] at e
    exact of_decide_eq_true (ofBool_eq e)
  · have e : BitVec.ofBool ((1#32).sle
        (m ((c.tc : Thread Cert.KernelIdeal.nD Cert.KernelIdeal.τ).loc Cert.KernelIdeal.main_arg1) j)) = 1#1 := congrFun h1 j
    exact of_decide_eq_true (ofBool_eq e)
  · have e : BitVec.ofBool (BitVec.sle
        (m ((c.tc : Thread Cert.KernelIdeal.nD Cert.KernelIdeal.τ).loc Cert.KernelIdeal.main_arg1) j) 20#32) = 1#1 := congrFun h2 j
    exact of_decide_eq_true (ofBool_eq e)

/-- From arguments the precondition admits, the kernel and the reference over the extended reals end with equal results. -/
theorem algebraic : Cert.algebraic_KernelIdeal_ReferenceIdeal_pre_multi_hot_and_in_range
    (hKernelIdeal := Cert.KernelIdeal.Gen.facts) (hReferenceIdeal := Cert.ReferenceIdeal.Gen.facts)
    (hPre_multi_hot_and_in_range := Cert.Pre_multi_hot_and_in_range.Gen.facts) := by
  intro m ρ m' ρ' hpre hag
  have ha := admissible_of_pre m hpre
  refine ⟨fun c => Cert.Basket.result m c,
    (θ_run _ _ _).mono (fun r h c => ⟨(h c).1.trans (Cert.Basket.arr_eq m c (ha c)), (h c).2⟩)
      (Cert.KernelIdeal.Value.run_blocks m ρ),
    (θ_run _ _ _).mono (fun r h c => ⟨(h c).1.trans ?_, (h c).2⟩) (Cert.ReferenceIdeal.Value.run m' ρ')⟩
  obtain ⟨e0, e1, e2, e3, e4, e5, e6, e7, e8, e9, e10⟩ := hag c
  refine (Cert.Basket.Ref.out_eq m' c ?_).trans ?_
  · rw [e0, e1]
    exact ha c
  · unfold Cert.Basket.Ref.result Cert.Basket.result
    rw [e0, e1, e2, e3, e4, e5, e6, e7, e8, e9, e10]

/-- All five claims, with the witnesses of the programs' side conditions. -/
theorem claim : Cert.Claim :=
  ⟨Cert.Kernel.Gen.facts, Cert.KernelIdeal.Gen.facts, Cert.ReferenceIdeal.Gen.facts, Cert.Pre_multi_hot_and_in_range.Gen.facts,
    kernel_frame, kernelIdeal_frame, fun m ρ _ => kernelIdeal_frame m ρ trivial, reference_frame,
    fun m ρ _ => reference_frame m ρ trivial, trivial, algebraic⟩

end Cert.Proof

end
